-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "taken" .f32 0x7149F2CA#32 ⊤
  ∧ IdealRules.named_const.Statement Cert.KernelIdeal.κ "scale" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2x256 : Shape := ⟨3, ![1, 2, 256]⟩
abbrev S1x128x256 : Shape := ⟨3, ![1, 128, 256]⟩
abbrev S128x256 : Shape := ⟨2, ![128, 256]⟩
abbrev S256x256 : Shape := ⟨2, ![256, 256]⟩
abbrev S128x512 : Shape := ⟨2, ![128, 512]⟩
abbrev S128x128 : Shape := ⟨2, ![128, 128]⟩
abbrev S128 : Shape := ⟨1, ![128]⟩
abbrev S_ : Shape := ⟨0, ![]⟩

class Facts : Prop where
  bcast_S_S1x2x256 : S_.BroadcastsInDim S1x2x256 (![] : Fin 0 → Fin S1x2x256.rank)
  reducesTo_S1x2x256_S_d0_1_2 : S1x2x256.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg13 : FVec F S128x128 .f32) (main_v14 : IVec S_ 1) (main_v15 : FVec F S128 .f32) (main_cst_5 : FVec F S_ .f32) : IVec S_ 1 :=
  let main_v16 : FVec F S128 .f32 := broadcastInDim S128 ![] bcast_S_S128 main_cst_5
  let main_v17 : IVec S128 1 := cmpf .olt main_v15 main_v16
  let main_c_6 : IVec S_ 1 := constantI S_ 1 1#1
  let main_v18 : IVec S_ 1 := (fun x v => Host.reduce IntOp.andi x v reducesTo_S128_S_d0 h_S_) main_v17 main_c_6
  let main_v19 : IVec S_ 1 := andi main_v14 main_v18
  let main_v20 : FVec F S128x128 .f32 := Host.absf main_arg13
  let main_cst_7 : FVec F S_ .f32 := constant S_ .f32 0x7F800000#32
  let main_v21 : FVec F S128x128 .f32 := broadcastInDim S128x128 ![] bcast_S_S128x128 main_cst_7
  let main_v22 : IVec S128x128 1 := cmpf .olt main_v20 main_v21
  let main_c_8 : IVec S_ 1 := constantI S_ 1 1#1
  let main_v23 : IVec S_ 1 := (fun x v => Host.reduce IntOp.andi x v reducesTo_S128x128_S_d0_1 h_S_) main_v22 main_c_8
  let main_v24 : IVec S_ 1 := andi main_v19 main_v23
  main_v24

def fn {F : FTy → Type} [FloatOps F] (main_arg0 : FVec F S1x2x256 .f32) (main_arg1 : FVec F S1x128x256 .f32) (main_arg2 : FVec F S128x256 .f32) (main_arg3 : FVec F S256x256 .f32) (main_arg4 : FVec F S128x512 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S1x2x256 .f32 := Host.absf main_arg0
  let main_cst : FVec F S_ .f32 := constant S_ .f32 0x7F800000#32
  let main_v1 : FVec F S1x2x256 .f32 := broadcastInDim S1x2x256 ![] bcast_S_S1x2x256 main_cst
  let main_v2 : IVec S1x2x256 1 := cmpf .olt main_v0 main_v1
  let main_c : IVec S_ 1 := constantI S_ 1 1#1
  let main_v3 : IVec S_ 1 := (fun x v => Host.reduce IntOp.andi x v reducesTo_S1x2x256_S_d0_1_2 h_S_) main_v2 main_c
  let main_c_0 : IVec S_ 1 := constantI S_ 1 1#1
  let main_v4 : IVec S_ 1 := andi main_c_0 main_v3
  let main_v5 : FVec F S128x128 .f32 := Host.absf main_arg5
  let main_cst_1 : FVec F S_ .f32 := constant S_ .f32 0x7F800000#32
  let main_v6 : FVec F S128x128 .f32 := broadcastInDim S128x128 ![] bcast_S_S128x128 main_cst_1
  let main_v7 : IVec S128x128 1 := cmpf .olt main_v5 main_v6
  let main_c_2 : IVec S_ 1 := constantI S_ 1 1#1
  let main_v8 : IVec S_ 1 := (fun x v => Host.reduce IntOp.andi x v reducesTo_S128x128_S_d0_1 h_S_) main_v7 main_c_2
  let main_v9 : IVec S_ 1 := andi main_v4 main_v8
  let main_v10 : FVec F S128x128 .f32 := Host.absf main_arg7
  let main_cst_3 : FVec F S_ .f32 := constant S_ .f32 0x7F800000#32
  let main_v11 : FVec F S128x128 .f32 := broadcastInDim S128x128 ![] bcast_S_S128x128 main_cst_3
  let main_v12 : IVec S128x128 1 := cmpf .olt main_v10 main_v11
  let main_c_4 : IVec S_ 1 := constantI S_ 1 1#1
  let main_v13 : IVec S_ 1 := (fun x v => Host.reduce IntOp.andi x v reducesTo_S128x128_S_d0_1 h_S_) main_v12 main_c_4
  let main_v14 : IVec S_ 1 := andi main_v9 main_v13
  let main_v15 : FVec F S128 .f32 := Host.absf main_arg8
  let main_cst_5 : FVec F S_ .f32 := constant S_ .f32 0x7F800000#32
  fn_part1 (F := F) main_arg13 main_v14 main_v15 main_cst_5
-- ==== Kernel.lean ====
abbrev S1x2x256 : Shape := ⟨3, ![1, 2, 256]⟩
abbrev S1x128x256 : Shape := ⟨3, ![1, 128, 256]⟩
abbrev S128x256 : Shape := ⟨2, ![128, 256]⟩
abbrev S256x256 : Shape := ⟨2, ![256, 256]⟩
abbrev S128x512 : Shape := ⟨2, ![128, 512]⟩
abbrev S128x128 : Shape := ⟨2, ![128, 128]⟩
abbrev S128 : Shape := ⟨1, ![128]⟩
abbrev S2x256 : Shape := ⟨2, ![2, 256]⟩
abbrev S128x64 : Shape := ⟨2, ![128, 64]⟩
abbrev S1x128 : Shape := ⟨2, ![1, 128]⟩
abbrev S10x256x256 : Shape := ⟨3, ![10, 256, 256]⟩
abbrev S256x128 : Shape := ⟨2, ![256, 128]⟩
abbrev S256x2 : Shape := ⟨2, ![256, 2]⟩
abbrev S1x256 : Shape := ⟨2, ![1, 256]⟩
abbrev S256x1 : Shape := ⟨2, ![256, 1]⟩
abbrev S256 : Shape := ⟨1, ![256]⟩
abbrev S10x128x256 : Shape := ⟨3, ![10, 128, 256]⟩
abbrev S10x128 : Shape := ⟨2, ![10, 128]⟩
abbrev S10x128x1 : Shape := ⟨3, ![10, 128, 1]⟩
abbrev S128x1 : Shape := ⟨2, ![128, 1]⟩
abbrev S1x128x1 : Shape := ⟨3, ![1, 128, 1]⟩
abbrev S1x256x256 : Shape := ⟨3, ![1, 256, 256]⟩
abbrev S10x256 : Shape := ⟨2, ![10, 256]⟩
abbrev S10x256x1 : Shape := ⟨3, ![10, 256, 1]⟩
abbrev S1x256x1 : Shape := ⟨3, ![1, 256, 1]⟩
abbrev S512x256 : Shape := ⟨2, ![512, 256]⟩
abbrev S256x32 : Shape := ⟨2, ![256, 32]⟩
abbrev S32x64 : Shape := ⟨2, ![32, 64]⟩
abbrev S256x64 : Shape := ⟨2, ![256, 64]⟩
abbrev S10x32x256 : Shape := ⟨3, ![10, 32, 256]⟩
abbrev S32x128 : Shape := ⟨2, ![32, 128]⟩
abbrev S32x256 : Shape := ⟨2, ![32, 256]⟩
abbrev S64x1 : Shape := ⟨2, ![64, 1]⟩
abbrev S10x32x64 : Shape := ⟨3, ![10, 32, 64]⟩
abbrev S10x32x1x64 : Shape := ⟨4, ![10, 32, 1, 64]⟩
abbrev S1x1x64x1 : Shape := ⟨4, ![1, 1, 64, 1]⟩
abbrev S10x32x64x64 : Shape := ⟨4, ![10, 32, 64, 64]⟩
abbrev S32x64x64 : Shape := ⟨3, ![32, 64, 64]⟩
abbrev S32x64x256 : Shape := ⟨3, ![32, 64, 256]⟩
abbrev S32x64x1 : Shape := ⟨3, ![32, 64, 1]⟩
abbrev S32x32 : Shape := ⟨2, ![32, 32]⟩
abbrev S32 : Shape := ⟨1, ![32]⟩
abbrev S32x1 : Shape := ⟨2, ![32, 1]⟩

abbrev nBuf : Space → Nat
  | .hbm => 42
  | .vmem => 43
  | .smem => 0
  | _ => 0

abbrev bufTy : (tb : Table) → Fin (tcTables nBuf tb) → BufTy
  | .hbm, ⟨0, _⟩ => ⟨S1x2x256, .f32⟩
  | .hbm, ⟨1, _⟩ => ⟨S1x128x256, .f32⟩
  | .hbm, ⟨2, _⟩ => ⟨S128x256, .f32⟩
  | .hbm, ⟨3, _⟩ => ⟨S256x256, .f32⟩
  | .hbm, ⟨4, _⟩ => ⟨S128x512, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S2x256, .f32⟩
  | .hbm, ⟨20, _⟩ => ⟨S128x256, .f32⟩
  | .hbm, ⟨21, _⟩ => ⟨S128x64, .f32⟩
  | .hbm, ⟨22, _⟩ => ⟨S128x64, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S10x256x256, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S256x256, .f32⟩
  | .hbm, ⟨34, _⟩ => ⟨S256x256, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S256x128, .f32⟩
  | .hbm, ⟨40, _⟩ => ⟨S128x256, .f32⟩
  | .hbm, ⟨41, _⟩ => ⟨S1x128x256, .f32⟩
  | .local _ .vmem, ⟨0, _⟩ => ⟨S2x256, .f32⟩
  | .local _ .vmem, ⟨1, _⟩ => ⟨S128x256, .f32⟩
  | .local _ .vmem, ⟨2, _⟩ => ⟨S128x256, .f32⟩
  | .local _ .vmem, ⟨3, _⟩ => ⟨S256x256, .f32⟩
  | .local _ .vmem, ⟨4, _⟩ => ⟨S128x512, .f32⟩
  | .local _ .vmem, ⟨5, _⟩ => ⟨S128x64, .f32⟩
  | .local _ .vmem, ⟨6, _⟩ => ⟨S128x64, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S10x256x256, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x256, .f32⟩
  | .local _ .vmem, ⟨22, _⟩ => ⟨S256x256, .f32⟩
  | .local _ .vmem, ⟨23, _⟩ => ⟨S1x128, .f32⟩
  | .local _ .vmem, ⟨24, _⟩ => ⟨S10x32x256, .f32⟩
  | .local _ .vmem, ⟨25, _⟩ => ⟨S10x32x256, .f32⟩
  | .local _ .vmem, ⟨26, _⟩ => ⟨S32x128, .f32⟩
  | .local _ .vmem, ⟨27, _⟩ => ⟨S32x128, .f32⟩
  | .local _ .vmem, ⟨28, _⟩ => ⟨S32x128, .f32⟩
  | .local _ .vmem, ⟨29, _⟩ => ⟨S32x128, .f32⟩
  | .local _ .vmem, ⟨30, _⟩ => ⟨S32x256, .f32⟩
  | .local _ .vmem, ⟨31, _⟩ => ⟨S32x256, .f32⟩
  | .local _ .vmem, ⟨32, _⟩ => ⟨S32x256, .f32⟩
  | .local _ .vmem, ⟨33, _⟩ => ⟨S32x256, .f32⟩
  | .local _ .vmem, ⟨34, _⟩ => ⟨S256x128, .f32⟩
  | .local _ .vmem, ⟨35, _⟩ => ⟨S256x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S32x128, .f32⟩
  | .local _ .vmem, ⟨42, _⟩ => ⟨S32x128, .f32⟩
  | _, _ => ⟨S1x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev main_v9_4 : Ref sig .tc := ⟨.hbm, 32, rfl⟩
abbrev main_v9_5 : Ref sig .tc := ⟨.hbm, 33, rfl⟩
abbrev main_v9_6 : Ref sig .tc := ⟨.hbm, 34, rfl⟩
abbrev main_v9_7 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg12_1 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem12_1 : DmaSem sig := 42

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S10x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S32x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "scale" => some (((Real.sqrt 32)⁻¹ : ℝ) : EReal)
  | "taken" => some ⊤
  | _ => none
-- ==== ReferenceIdeal.lean ====
abbrev S1x2x256 : Shape := ⟨3, ![1, 2, 256]⟩
abbrev S1x128x256 : Shape := ⟨3, ![1, 128, 256]⟩
abbrev S128x256 : Shape := ⟨2, ![128, 256]⟩
abbrev S256x256 : Shape := ⟨2, ![256, 256]⟩
abbrev S128x512 : Shape := ⟨2, ![128, 512]⟩
abbrev S128x128 : Shape := ⟨2, ![128, 128]⟩
abbrev S128 : Shape := ⟨1, ![128]⟩
abbrev S1x256x2 : Shape := ⟨3, ![1, 256, 2]⟩
abbrev S1x256x256 : Shape := ⟨3, ![1, 256, 256]⟩
abbrev S_ : Shape := ⟨0, ![]⟩
abbrev S1x256 : Shape := ⟨2, ![1, 256]⟩
abbrev S1x256x1 : Shape := ⟨3, ![1, 256, 1]⟩
abbrev S1x1x256 : Shape := ⟨3, ![1, 1, 256]⟩
abbrev S1x256x11 : Shape := ⟨3, ![1, 256, 11]⟩
abbrev S1x256x10 : Shape := ⟨3, ![1, 256, 10]⟩
abbrev S1x128x256x1 : Shape := ⟨4, ![1, 128, 256, 1]⟩
abbrev S1x256x10x1 : Shape := ⟨4, ![1, 256, 10, 1]⟩
abbrev S1x128x256x10 : Shape := ⟨4, ![1, 128, 256, 10]⟩
abbrev S1x256x256x10 : Shape := ⟨4, ![1, 256, 256, 10]⟩
abbrev S1x256x10x2 : Shape := ⟨4, ![1, 256, 10, 2]⟩
abbrev S1x256x1x2 : Shape := ⟨4, ![1, 256, 1, 2]⟩
abbrev S1x256x1x10x2 : Shape := ⟨5, ![1, 256, 1, 10, 2]⟩
abbrev S1x1x256x2 : Shape := ⟨4, ![1, 1, 256, 2]⟩
abbrev S1x256x256x2 : Shape := ⟨4, ![1, 256, 256, 2]⟩
abbrev S1x256x256x1x2 : Shape := ⟨5, ![1, 256, 256, 1, 2]⟩
abbrev S1x256x256x10x2 : Shape := ⟨5, ![1, 256, 256, 10, 2]⟩
abbrev S1x256x1x10 : Shape := ⟨4, ![1, 256, 1, 10]⟩
abbrev S1x256x256x1 : Shape := ⟨4, ![1, 256, 256, 1]⟩
abbrev S1x256x10x128 : Shape := ⟨4, ![1, 256, 10, 128]⟩
abbrev S1x128 : Shape := ⟨2, ![1, 128]⟩
abbrev S1x128x1x1 : Shape := ⟨4, ![1, 128, 1, 1]⟩
abbrev S64 : Shape := ⟨1, ![64]⟩
abbrev S1x256x256x10x1 : Shape := ⟨5, ![1, 256, 256, 10, 1]⟩
abbrev S1x1x1x1x64 : Shape := ⟨5, ![1, 1, 1, 1, 64]⟩
abbrev S1x256x256x10x64 : Shape := ⟨5, ![1, 256, 256, 10, 64]⟩
abbrev S1x256x256x10x64x1 : Shape := ⟨6, ![1, 256, 256, 10, 64, 1]⟩
abbrev S1x256x256x10x64x2 : Shape := ⟨6, ![1, 256, 256, 10, 64, 2]⟩
abbrev S1x256x256x10x128 : Shape := ⟨5, ![1, 256, 256, 10, 128]⟩
abbrev S1x1x1x1x128 : Shape := ⟨5, ![1, 1, 1, 1, 128]⟩
abbrev S1x256x256x128 : Shape := ⟨4, ![1, 256, 256, 128]⟩
abbrev S1x256x10x256 : Shape := ⟨4, ![1, 256, 10, 256]⟩
abbrev S1x256x1x1 : Shape := ⟨4, ![1, 256, 1, 1]⟩
abbrev S1x512x256x1 : Shape := ⟨4, ![1, 512, 256, 1]⟩
abbrev S1x256x1x128 : Shape := ⟨4, ![1, 256, 1, 128]⟩
abbrev S1x256x128 : Shape := ⟨3, ![1, 256, 128]⟩
abbrev S1x1x128 : Shape := ⟨3, ![1, 1, 128]⟩
abbrev S1x256x4x32 : Shape := ⟨4, ![1, 256, 4, 32]⟩
abbrev S1x4x256x32 : Shape := ⟨4, ![1, 4, 256, 32]⟩
abbrev S1x1x1x128 : Shape := ⟨4, ![1, 1, 1, 128]⟩
abbrev S1x256x256x4x32 : Shape := ⟨5, ![1, 256, 256, 4, 32]⟩
abbrev S1x4x256x256x32 : Shape := ⟨5, ![1, 4, 256, 256, 32]⟩
abbrev S1x4x256x256 : Shape := ⟨4, ![1, 4, 256, 256]⟩
abbrev S1x4x256 : Shape := ⟨3, ![1, 4, 256]⟩
abbrev S1x4x256x1 : Shape := ⟨4, ![1, 4, 256, 1]⟩

abbrev nBuf : Space → Nat
  | .hbm => 422
  | .vmem => 0
  | .smem => 0
  | _ => 0

abbrev hbmTy0_0 (i : Nat) : BufTy := match i % 128 with
  | 0 => ⟨S1x2x256, .f32⟩
  | 1 => ⟨S1x128x256, .f32⟩
  | 2 => ⟨S128x256, .f32⟩
  | 3 => ⟨S256x256, .f32⟩
  | 4 => ⟨S128x512, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S1x256x2, .f32⟩
  | 20 => ⟨S1x256x256, .f32⟩
  | 21 => ⟨S_, .f32⟩
  | 22 => ⟨S1x256x256, .f32⟩
  | 23 => ⟨S1x256x256, .f32⟩
  | 24 => ⟨S1x256x2, .f32⟩
  | 25 => ⟨S_, .f32⟩
  | 26 => ⟨S1x256, .f32⟩
  | 27 => ⟨S1x256x1, .f32⟩
  | 28 => ⟨S1x256x256, .f32⟩
  | 29 => ⟨S1x256x256, .f32⟩
  | 30 => ⟨S1x256x2, .f32⟩
  | 31 => ⟨S_, .f32⟩
  | 32 => ⟨S1x256, .f32⟩
  | 33 => ⟨S1x1x256, .f32⟩
  | 34 => ⟨S1x256x256, .f32⟩
  | 35 => ⟨S1x256x256, .f32⟩
  | 36 => ⟨S_, .f32⟩
  | 37 => ⟨S_, .f32⟩
  | 38 => ⟨S1x256x256, .f32⟩
  | 39 => ⟨S1x256x256, .f32⟩
  | 40 => ⟨S1x256x256, .f32⟩
  | 41 => ⟨S1x256x11, .f32⟩
  | 42 => ⟨S1x256x11, .i32⟩
  | 43 => ⟨S1x256x10, .i32⟩
  | 44 => ⟨S1x128x256x1, .f32⟩
  | 45 => ⟨S_, .i32⟩
  | 46 => ⟨S1x256x10, .i32⟩
  | 47 => ⟨S1x256x10, .i1⟩
  | 48 => ⟨S_, .i32⟩
  | 49 => ⟨S1x256x10, .i32⟩
  | 50 => ⟨S1x256x10, .i32⟩
  | 51 => ⟨S1x256x10, .i32⟩
  | 52 => ⟨S1x256x10x1, .i32⟩
  | 53 => ⟨S1x128x256x10, .f32⟩
  | 54 => ⟨S1x128x256x1, .f32⟩
  | 55 => ⟨S1x128x256x10, .f32⟩
  | 56 => ⟨S1x128x256x10, .f32⟩
  | 57 => ⟨S1x256x256x10, .f32⟩
  | 58 => ⟨S1x256x2, .f32⟩
  | 59 => ⟨S_, .i32⟩
  | 60 => ⟨S1x256x10, .i32⟩
  | 61 => ⟨S1x256x10, .i1⟩
  | 62 => ⟨S_, .i32⟩
  | 63 => ⟨S1x256x10, .i32⟩
  | 64 => ⟨S1x256x10, .i32⟩
  | 65 => ⟨S1x256x10, .i32⟩
  | 66 => ⟨S1x256x10x1, .i32⟩
  | 67 => ⟨S1x256x10x2, .f32⟩
  | 68 => ⟨S1x256x1x2, .f32⟩
  | 69 => ⟨S1x256x10x2, .f32⟩
  | 70 => ⟨S1x256x10x2, .f32⟩
  | 71 => ⟨S1x256x1x10x2, .f32⟩
  | 72 => ⟨S1x1x256x2, .f32⟩
  | 73 => ⟨S1x256x1x2, .f32⟩
  | 74 => ⟨S1x256x256x2, .f32⟩
  | 75 => ⟨S1x256x256x2, .f32⟩
  | 76 => ⟨S1x256x256x2, .f32⟩
  | 77 => ⟨S1x256x256x1x2, .f32⟩
  | 78 => ⟨S1x256x256x10x2, .f32⟩
  | 79 => ⟨S1x256x256x10x2, .f32⟩
  | 80 => ⟨S1x256x256x10x2, .f32⟩
  | 81 => ⟨S_, .f32⟩
  | 82 => ⟨S1x256x256x10, .f32⟩
  | 83 => ⟨S1x256x1x10x2, .f32⟩
  | 84 => ⟨S_, .f32⟩
  | 85 => ⟨S1x256x1x10, .f32⟩
  | 86 => ⟨S1x256x1x10, .f32⟩
  | 87 => ⟨S1x256x256x1x2, .f32⟩
  | 88 => ⟨S_, .f32⟩
  | 89 => ⟨S1x256x256x1, .f32⟩
  | 90 => ⟨S1x256x256x1, .f32⟩
  | 91 => ⟨S1x256x256x10, .f32⟩
  | 92 => ⟨S1x256x256x10, .f32⟩
  | 93 => ⟨S1x256x256x10, .f32⟩
  | 94 => ⟨S1x256x256x10, .f32⟩
  | 95 => ⟨S_, .f32⟩
  | 96 => ⟨S1x256x256x10, .f32⟩
  | 97 => ⟨S1x256x256x10, .f32⟩
  | 98 => ⟨S1x256x10x128, .f32⟩
  | 99 => ⟨S1x128x256x10, .f32⟩
  | 100 => ⟨S_, .f32⟩
  | 101 => ⟨S1x128, .f32⟩
  | 102 => ⟨S1x128x1x1, .f32⟩
  | 103 => ⟨S_, .f32⟩
  | 104 => ⟨S1x128x1x1, .f32⟩
  | 105 => ⟨S1x128x1x1, .f32⟩
  | 106 => ⟨S_, .i32⟩
  | 107 => ⟨S_, .f32⟩
  | 108 => ⟨S1x128, .f32⟩
  | 109 => ⟨S1x128x1x1, .f32⟩
  | 110 => ⟨S_, .f32⟩
  | 111 => ⟨S1x128x1x1, .f32⟩
  | 112 => ⟨S1x128x1x1, .f32⟩
  | 113 => ⟨S1x128x256x10, .f32⟩
  | 114 => ⟨S1x128x256x10, .f32⟩
  | 115 => ⟨S1x128x256x10, .f32⟩
  | 116 => ⟨S_, .f32⟩
  | 117 => ⟨S_, .f32⟩
  | 118 => ⟨S_, .f32⟩
  | 119 => ⟨S_, .f32⟩
  | 120 => ⟨S1x128, .f32⟩
  | 121 => ⟨S1x128x1x1, .f32⟩
  | 122 => ⟨S1x128x1x1, .f32⟩
  | 123 => ⟨S1x128x1x1, .f32⟩
  | 124 => ⟨S_, .f32⟩
  | 125 => ⟨S_, .i1⟩
  | 126 => ⟨S_, .f32⟩
  | 127 => ⟨S_, .f32⟩
  | _ => ⟨S1x2x256, .f32⟩

abbrev hbmTy0_1 (i : Nat) : BufTy := match i % 128 with
  | 0 => ⟨S1x128x1x1, .f32⟩
  | 1 => ⟨S1x128x1x1, .f32⟩
  | 2 => ⟨S1x128x256x10, .f32⟩
  | 3 => ⟨S1x128x256x10, .f32⟩
  | 4 => ⟨S_, .f32⟩
  | 5 => ⟨S1x128x1x1, .f32⟩
  | 6 => ⟨S1x128x1x1, .f32⟩
  | 7 => ⟨S1x128x1x1, .f32⟩
  | 8 => ⟨S1x128x256x10, .f32⟩
  | 9 => ⟨S1x128x256x10, .f32⟩
  | 10 => ⟨S_, .f32⟩
  | 11 => ⟨S1x128x256x10, .f32⟩
  | 12 => ⟨S1x128x256x10, .i1⟩
  | 13 => ⟨S_, .f32⟩
  | 14 => ⟨S1x128x256x10, .f32⟩
  | 15 => ⟨S1x128x256x10, .f32⟩
  | 16 => ⟨S1x128x256x10, .f32⟩
  | 17 => ⟨S_, .f32⟩
  | 18 => ⟨S1x128x256, .f32⟩
  | 19 => ⟨S1x128x256x1, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S1x256x256x10x1, .f32⟩
  | 32 => ⟨S1x1x1x1x64, .f32⟩
  | 33 => ⟨S1x256x256x10x64, .f32⟩
  | 34 => ⟨S1x256x256x10x64, .f32⟩
  | 35 => ⟨S1x256x256x10x64, .f32⟩
  | 36 => ⟨S1x256x256x10x64, .f32⟩
  | 37 => ⟨S1x256x256x10x64, .f32⟩
  | 38 => ⟨S1x256x256x10x64x1, .f32⟩
  | 39 => ⟨S1x256x256x10x64x1, .f32⟩
  | 40 => ⟨S1x256x256x10x64x2, .f32⟩
  | 41 => ⟨S1x256x256x10x128, .f32⟩
  | 42 => ⟨S128x128, .f32⟩
  | 43 => ⟨S1x256x256x10x128, .f32⟩
  | 44 => ⟨S1x1x1x1x128, .f32⟩
  | 45 => ⟨S1x256x256x10x128, .f32⟩
  | 46 => ⟨S1x256x256x10x128, .f32⟩
  | 47 => ⟨S_, .f32⟩
  | 48 => ⟨S1x256x256x128, .f32⟩
  | 49 => ⟨S_, .f32⟩
  | 50 => ⟨S1x256x256x128, .f32⟩
  | 51 => ⟨S1x256x256x128, .f32⟩
  | 52 => ⟨S1x128x256, .f32⟩
  | 53 => ⟨S1x256x2, .f32⟩
  | 54 => ⟨S1x256x256, .f32⟩
  | 55 => ⟨S_, .f32⟩
  | 56 => ⟨S1x256x256, .f32⟩
  | 57 => ⟨S1x256x256, .f32⟩
  | 58 => ⟨S1x256x2, .f32⟩
  | 59 => ⟨S_, .f32⟩
  | 60 => ⟨S1x256, .f32⟩
  | 61 => ⟨S1x256x1, .f32⟩
  | 62 => ⟨S1x256x256, .f32⟩
  | 63 => ⟨S1x256x256, .f32⟩
  | 64 => ⟨S1x256x2, .f32⟩
  | 65 => ⟨S_, .f32⟩
  | 66 => ⟨S1x256, .f32⟩
  | 67 => ⟨S1x1x256, .f32⟩
  | 68 => ⟨S1x256x256, .f32⟩
  | 69 => ⟨S1x256x256, .f32⟩
  | 70 => ⟨S_, .f32⟩
  | 71 => ⟨S_, .f32⟩
  | 72 => ⟨S1x256x256, .f32⟩
  | 73 => ⟨S1x256x256, .f32⟩
  | 74 => ⟨S1x256x256, .f32⟩
  | 75 => ⟨S1x256x11, .f32⟩
  | 76 => ⟨S1x256x11, .i32⟩
  | 77 => ⟨S1x256x10, .i32⟩
  | 78 => ⟨S_, .i32⟩
  | 79 => ⟨S1x256x10, .i32⟩
  | 80 => ⟨S1x256x10, .i1⟩
  | 81 => ⟨S_, .i32⟩
  | 82 => ⟨S1x256x10, .i32⟩
  | 83 => ⟨S1x256x10, .i32⟩
  | 84 => ⟨S1x256x10, .i32⟩
  | 85 => ⟨S1x256x10x1, .i32⟩
  | 86 => ⟨S1x128x256x10, .f32⟩
  | 87 => ⟨S1x128x256x1, .f32⟩
  | 88 => ⟨S1x128x256x10, .f32⟩
  | 89 => ⟨S1x128x256x10, .f32⟩
  | 90 => ⟨S1x256x256x10, .f32⟩
  | 91 => ⟨S1x256x10x256, .f32⟩
  | 92 => ⟨S1x256x256x10, .f32⟩
  | 93 => ⟨S_, .f32⟩
  | 94 => ⟨S1x256, .f32⟩
  | 95 => ⟨S1x256x1x1, .f32⟩
  | 96 => ⟨S_, .f32⟩
  | 97 => ⟨S1x256x1x1, .f32⟩
  | 98 => ⟨S1x256x1x1, .f32⟩
  | 99 => ⟨S_, .i32⟩
  | 100 => ⟨S_, .f32⟩
  | 101 => ⟨S1x256, .f32⟩
  | 102 => ⟨S1x256x1x1, .f32⟩
  | 103 => ⟨S_, .f32⟩
  | 104 => ⟨S1x256x1x1, .f32⟩
  | 105 => ⟨S1x256x1x1, .f32⟩
  | 106 => ⟨S1x256x256x10, .f32⟩
  | 107 => ⟨S1x256x256x10, .f32⟩
  | 108 => ⟨S1x256x256x10, .f32⟩
  | 109 => ⟨S_, .f32⟩
  | 110 => ⟨S_, .f32⟩
  | 111 => ⟨S_, .f32⟩
  | 112 => ⟨S_, .f32⟩
  | 113 => ⟨S1x256, .f32⟩
  | 114 => ⟨S1x256x1x1, .f32⟩
  | 115 => ⟨S1x256x1x1, .f32⟩
  | 116 => ⟨S1x256x1x1, .f32⟩
  | 117 => ⟨S_, .f32⟩
  | 118 => ⟨S_, .i1⟩
  | 119 => ⟨S_, .f32⟩
  | 120 => ⟨S_, .f32⟩
  | 121 => ⟨S1x256x1x1, .f32⟩
  | 122 => ⟨S1x256x1x1, .f32⟩
  | 123 => ⟨S1x256x256x10, .f32⟩
  | 124 => ⟨S1x256x256x10, .f32⟩
  | 125 => ⟨S_, .f32⟩
  | 126 => ⟨S1x256x1x1, .f32⟩
  | 127 => ⟨S1x256x1x1, .f32⟩
  | _ => ⟨S1x2x256, .f32⟩

abbrev hbmTy0_2 (i : Nat) : BufTy := match i % 128 with
  | 0 => ⟨S1x256x1x1, .f32⟩
  | 1 => ⟨S1x256x256x10, .f32⟩
  | 2 => ⟨S1x256x256x10, .f32⟩
  | 3 => ⟨S_, .f32⟩
  | 4 => ⟨S1x256x256x10, .f32⟩
  | 5 => ⟨S1x256x256x10, .i1⟩
  | 6 => ⟨S_, .f32⟩
  | 7 => ⟨S1x256x256x10, .f32⟩
  | 8 => ⟨S1x256x256x10, .f32⟩
  | 9 => ⟨S1x256x256x10, .f32⟩
  | 10 => ⟨S_, .f32⟩
  | 11 => ⟨S1x256x256, .f32⟩
  | 12 => ⟨S1x256x256x1, .f32⟩
  | 13 => ⟨S1x512x256x1, .f32⟩
  | 14 => ⟨S1x256x1x128, .f32⟩
  | 15 => ⟨S1x128x256x1, .f32⟩
  | 16 => ⟨S_, .f32⟩
  | 17 => ⟨S1x128, .f32⟩
  | 18 => ⟨S1x128x1x1, .f32⟩
  | 19 => ⟨S_, .f32⟩
  | 20 => ⟨S1x128x1x1, .f32⟩
  | 21 => ⟨S1x128x1x1, .f32⟩
  | 22 => ⟨S_, .i32⟩
  | 23 => ⟨S_, .f32⟩
  | 24 => ⟨S1x128, .f32⟩
  | 25 => ⟨S1x128x1x1, .f32⟩
  | 26 => ⟨S_, .f32⟩
  | 27 => ⟨S1x128x1x1, .f32⟩
  | 28 => ⟨S1x128x1x1, .f32⟩
  | 29 => ⟨S1x128x256x1, .f32⟩
  | 30 => ⟨S1x128x256x1, .f32⟩
  | 31 => ⟨S1x128x256x1, .f32⟩
  | 32 => ⟨S_, .f32⟩
  | 33 => ⟨S_, .f32⟩
  | 34 => ⟨S_, .f32⟩
  | 35 => ⟨S_, .f32⟩
  | 36 => ⟨S1x128, .f32⟩
  | 37 => ⟨S1x128x1x1, .f32⟩
  | 38 => ⟨S1x128x1x1, .f32⟩
  | 39 => ⟨S1x128x1x1, .f32⟩
  | 40 => ⟨S_, .f32⟩
  | 41 => ⟨S_, .i1⟩
  | 42 => ⟨S_, .f32⟩
  | 43 => ⟨S_, .f32⟩
  | 44 => ⟨S1x128x1x1, .f32⟩
  | 45 => ⟨S1x128x1x1, .f32⟩
  | 46 => ⟨S1x128x256x1, .f32⟩
  | 47 => ⟨S1x128x256x1, .f32⟩
  | 48 => ⟨S_, .f32⟩
  | 49 => ⟨S1x128x1x1, .f32⟩
  | 50 => ⟨S1x128x1x1, .f32⟩
  | 51 => ⟨S1x128x1x1, .f32⟩
  | 52 => ⟨S1x128x256x1, .f32⟩
  | 53 => ⟨S1x128x256x1, .f32⟩
  | 54 => ⟨S_, .f32⟩
  | 55 => ⟨S1x128x256x1, .f32⟩
  | 56 => ⟨S1x128x256x1, .i1⟩
  | 57 => ⟨S_, .f32⟩
  | 58 => ⟨S1x128x256x1, .f32⟩
  | 59 => ⟨S1x128x256x1, .f32⟩
  | 60 => ⟨S1x128x256x1, .f32⟩
  | 61 => ⟨S1x128x256, .f32⟩
  | 62 => ⟨S1x256x128, .f32⟩
  | 63 => ⟨S128x128, .f32⟩
  | 64 => ⟨S1x256x128, .f32⟩
  | 65 => ⟨S1x1x128, .f32⟩
  | 66 => ⟨S1x256x128, .f32⟩
  | 67 => ⟨S1x256x128, .f32⟩
  | 68 => ⟨S1x256x4x32, .f32⟩
  | 69 => ⟨S1x4x256x32, .f32⟩
  | 70 => ⟨S128x128, .f32⟩
  | 71 => ⟨S1x256x128, .f32⟩
  | 72 => ⟨S1x1x128, .f32⟩
  | 73 => ⟨S1x256x128, .f32⟩
  | 74 => ⟨S1x256x128, .f32⟩
  | 75 => ⟨S1x256x4x32, .f32⟩
  | 76 => ⟨S1x4x256x32, .f32⟩
  | 77 => ⟨S128x128, .f32⟩
  | 78 => ⟨S1x256x128, .f32⟩
  | 79 => ⟨S1x1x128, .f32⟩
  | 80 => ⟨S1x256x128, .f32⟩
  | 81 => ⟨S1x256x128, .f32⟩
  | 82 => ⟨S1x256x4x32, .f32⟩
  | 83 => ⟨S1x4x256x32, .f32⟩
  | 84 => ⟨S128x128, .f32⟩
  | 85 => ⟨S1x256x256x128, .f32⟩
  | 86 => ⟨S1x1x1x128, .f32⟩
  | 87 => ⟨S1x256x256x128, .f32⟩
  | 88 => ⟨S1x256x256x128, .f32⟩
  | 89 => ⟨S1x256x256x4x32, .f32⟩
  | 90 => ⟨S1x4x256x256x32, .f32⟩
  | 91 => ⟨S1x4x256x256, .f32⟩
  | 92 => ⟨S1x4x256x256, .f32⟩
  | 93 => ⟨S1x4x256x256, .f32⟩
  | 94 => ⟨S_, .f32⟩
  | 95 => ⟨S_, .f32⟩
  | 96 => ⟨S1x4x256x256, .f32⟩
  | 97 => ⟨S1x4x256x256, .f32⟩
  | 98 => ⟨S_, .f32⟩
  | 99 => ⟨S1x4x256, .f32⟩
  | 100 => ⟨S_, .f32⟩
  | 101 => ⟨S1x4x256, .f32⟩
  | 102 => ⟨S1x4x256, .f32⟩
  | 103 => ⟨S1x4x256x1, .f32⟩
  | 104 => ⟨S1x4x256x256, .f32⟩
  | 105 => ⟨S1x4x256x256, .f32⟩
  | 106 => ⟨S1x4x256x256, .f32⟩
  | 107 => ⟨S_, .f32⟩
  | 108 => ⟨S1x4x256, .f32⟩
  | 109 => ⟨S1x4x256x1, .f32⟩
  | 110 => ⟨S1x4x256x256, .f32⟩
  | 111 => ⟨S1x4x256x256, .f32⟩
  | 112 => ⟨S1x4x256x32, .f32⟩
  | 113 => ⟨S1x256x4x32, .f32⟩
  | 114 => ⟨S1x256x128, .f32⟩
  | 115 => ⟨S128x128, .f32⟩
  | 116 => ⟨S1x256x128, .f32⟩
  | 117 => ⟨S1x1x128, .f32⟩
  | 118 => ⟨S1x256x128, .f32⟩
  | 119 => ⟨S1x256x128, .f32⟩
  | 120 => ⟨S1x256x128, .f32⟩
  | 121 => ⟨S_, .f32⟩
  | 122 => ⟨S1x256, .f32⟩
  | 123 => ⟨S1x256x1, .f32⟩
  | 124 => ⟨S_, .f32⟩
  | 125 => ⟨S1x256x1, .f32⟩
  | 126 => ⟨S1x256x1, .f32⟩
  | 127 => ⟨S_, .i32⟩
  | _ => ⟨S1x2x256, .f32⟩

abbrev hbmTy0_3 (i : Nat) : BufTy := match i % 128 with
  | 0 => ⟨S_, .f32⟩
  | 1 => ⟨S1x256, .f32⟩
  | 2 => ⟨S1x256x1, .f32⟩
  | 3 => ⟨S_, .f32⟩
  | 4 => ⟨S1x256x1, .f32⟩
  | 5 => ⟨S1x256x1, .f32⟩
  | 6 => ⟨S1x256x128, .f32⟩
  | 7 => ⟨S1x256x128, .f32⟩
  | 8 => ⟨S1x256x128, .f32⟩
  | 9 => ⟨S_, .f32⟩
  | 10 => ⟨S_, .f32⟩
  | 11 => ⟨S_, .f32⟩
  | 12 => ⟨S_, .f32⟩
  | 13 => ⟨S1x256, .f32⟩
  | 14 => ⟨S1x256x1, .f32⟩
  | 15 => ⟨S1x256x1, .f32⟩
  | 16 => ⟨S1x256x1, .f32⟩
  | 17 => ⟨S_, .f32⟩
  | 18 => ⟨S_, .i1⟩
  | 19 => ⟨S_, .f32⟩
  | 20 => ⟨S_, .f32⟩
  | 21 => ⟨S1x256x1, .f32⟩
  | 22 => ⟨S1x256x1, .f32⟩
  | 23 => ⟨S1x256x128, .f32⟩
  | 24 => ⟨S1x256x128, .f32⟩
  | 25 => ⟨S_, .f32⟩
  | 26 => ⟨S1x256x1, .f32⟩
  | 27 => ⟨S1x256x1, .f32⟩
  | 28 => ⟨S1x256x1, .f32⟩
  | 29 => ⟨S1x256x128, .f32⟩
  | 30 => ⟨S1x256x128, .f32⟩
  | 31 => ⟨S1x1x128, .f32⟩
  | 32 => ⟨S1x256x128, .f32⟩
  | 33 => ⟨S1x256x128, .f32⟩
  | 34 => ⟨S1x1x128, .f32⟩
  | 35 => ⟨S1x256x128, .f32⟩
  | 36 => ⟨S1x256x128, .f32⟩
  | 37 => ⟨S1x128x256, .f32⟩
  | _ => ⟨S1x2x256, .f32⟩

abbrev hbmTy (i : Nat) : BufTy := match i / 128 with
  | 0 => hbmTy0_0 i
  | 1 => hbmTy0_1 i
  | 2 => hbmTy0_2 i
  | 3 => hbmTy0_3 i
  | _ => ⟨S1x2x256, .f32⟩

abbrev bufTy : (tb : Table) → Fin (tcTables nBuf tb) → BufTy
  | .hbm, ⟨i, _⟩ => hbmTy i
  | _, _ => ⟨S1x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_values : Ref sig .tc := ⟨.hbm, 41, rfl⟩
abbrev main_indices : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_4 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_v51 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_7 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_c_10 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_cst_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_cst_1 : Ref sig .tc := ⟨.hbm, 117, rfl⟩
abbrev main_call3_v8 : Ref sig .tc := ⟨.hbm, 118, rfl⟩
abbrev main_call3_cst_2 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_cst_3 : Ref sig .tc := ⟨.hbm, 124, rfl⟩
abbrev main_call3_v13 : Ref sig .tc := ⟨.hbm, 125, rfl⟩
abbrev main_call3_cst_4 : Ref sig .tc := ⟨.hbm, 126, rfl⟩
abbrev main_call3_call0_v0 : Ref sig .tc := ⟨.hbm, 127, rfl⟩
abbrev main_call3_call0_v1 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_11 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_12 : Ref sig .tc := ⟨.hbm, 138, rfl⟩
abbrev main_v73 : Ref sig .tc := ⟨.hbm, 139, rfl⟩
abbrev main_v74 : Ref sig .tc := ⟨.hbm, 140, rfl⟩
abbrev main_cst_13 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_14 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_cst_15 : Ref sig .tc := ⟨.hbm, 149, rfl⟩
abbrev main_v81 : Ref sig .tc := ⟨.hbm, 150, rfl⟩
abbrev main_v82 : Ref sig .tc := ⟨.hbm, 151, rfl⟩
abbrev main_cst_16 : Ref sig .tc := ⟨.hbm, 152, rfl⟩
abbrev main_v83 : Ref sig .tc := ⟨.hbm, 153, rfl⟩
abbrev main_v84 : Ref sig .tc := ⟨.hbm, 154, rfl⟩
abbrev main_cst_17 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_18 : Ref sig .tc := ⟨.hbm, 175, rfl⟩
abbrev main_v104 : Ref sig .tc := ⟨.hbm, 176, rfl⟩
abbrev main_cst_19 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_cst_20 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_cst_21 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_cst_22 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_cst_23 : Ref sig .tc := ⟨.hbm, 198, rfl⟩
abbrev main_call5_v0 : Ref sig .tc := ⟨.hbm, 199, rfl⟩
abbrev main_call5_v1 : Ref sig .tc := ⟨.hbm, 200, rfl⟩
abbrev main_v122 : Ref sig .tc := ⟨.hbm, 201, rfl⟩
abbrev main_v123 : Ref sig .tc := ⟨.hbm, 202, rfl⟩
abbrev main_values_24 : Ref sig .tc := ⟨.hbm, 203, rfl⟩
abbrev main_indices_25 : Ref sig .tc := ⟨.hbm, 204, rfl⟩
abbrev main_v124 : Ref sig .tc := ⟨.hbm, 205, rfl⟩
abbrev main_c_26 : Ref sig .tc := ⟨.hbm, 206, rfl⟩
abbrev main_v125 : Ref sig .tc := ⟨.hbm, 207, rfl⟩
abbrev main_v126 : Ref sig .tc := ⟨.hbm, 208, rfl⟩
abbrev main_c_27 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_28 : Ref sig .tc := ⟨.hbm, 221, rfl⟩
abbrev main_v138 : Ref sig .tc := ⟨.hbm, 222, rfl⟩
abbrev main_v139 : Ref sig .tc := ⟨.hbm, 223, rfl⟩
abbrev main_cst_29 : Ref sig .tc := ⟨.hbm, 224, rfl⟩
abbrev main_v140 : Ref sig .tc := ⟨.hbm, 225, rfl⟩
abbrev main_v141 : Ref sig .tc := ⟨.hbm, 226, rfl⟩
abbrev main_c_30 : Ref sig .tc := ⟨.hbm, 227, rfl⟩
abbrev main_call6_cst : Ref sig .tc := ⟨.hbm, 228, rfl⟩
abbrev main_call6_v0 : Ref sig .tc := ⟨.hbm, 229, rfl⟩
abbrev main_call6_v1 : Ref sig .tc := ⟨.hbm, 230, rfl⟩
abbrev main_call6_cst_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_v6 : Ref sig .tc := ⟨.hbm, 236, rfl⟩
abbrev main_call6_v7 : Ref sig .tc := ⟨.hbm, 237, rfl⟩
abbrev main_call6_cst_1 : Ref sig .tc := ⟨.hbm, 238, rfl⟩
abbrev main_call6_v8 : Ref sig .tc := ⟨.hbm, 239, rfl⟩
abbrev main_call6_cst_2 : Ref sig .tc := ⟨.hbm, 240, rfl⟩
abbrev main_call6_v9 : Ref sig .tc := ⟨.hbm, 241, rfl⟩
abbrev main_call6_v10 : Ref sig .tc := ⟨.hbm, 242, rfl⟩
abbrev main_call6_v11 : Ref sig .tc := ⟨.hbm, 243, rfl⟩
abbrev main_call6_v12 : Ref sig .tc := ⟨.hbm, 244, rfl⟩
abbrev main_call6_cst_3 : Ref sig .tc := ⟨.hbm, 245, rfl⟩
abbrev main_call6_v13 : Ref sig .tc := ⟨.hbm, 246, rfl⟩
abbrev main_call6_cst_4 : Ref sig .tc := ⟨.hbm, 247, rfl⟩
abbrev main_call6_call0_v0 : Ref sig .tc := ⟨.hbm, 248, rfl⟩
abbrev main_call6_call0_v1 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_cst_31 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_cst_32 : Ref sig .tc := ⟨.hbm, 259, rfl⟩
abbrev main_v150 : Ref sig .tc := ⟨.hbm, 260, rfl⟩
abbrev main_v151 : Ref sig .tc := ⟨.hbm, 261, rfl⟩
abbrev main_cst_33 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_cst_34 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_35 : Ref sig .tc := ⟨.hbm, 272, rfl⟩
abbrev main_v160 : Ref sig .tc := ⟨.hbm, 273, rfl⟩
abbrev main_v161 : Ref sig .tc := ⟨.hbm, 274, rfl⟩
abbrev main_cst_36 : Ref sig .tc := ⟨.hbm, 275, rfl⟩
abbrev main_v162 : Ref sig .tc := ⟨.hbm, 276, rfl⟩
abbrev main_v163 : Ref sig .tc := ⟨.hbm, 277, rfl⟩
abbrev main_c_37 : Ref sig .tc := ⟨.hbm, 278, rfl⟩
abbrev main_call8_cst : Ref sig .tc := ⟨.hbm, 279, rfl⟩
abbrev main_call8_v0 : Ref sig .tc := ⟨.hbm, 280, rfl⟩
abbrev main_call8_v1 : Ref sig .tc := ⟨.hbm, 281, rfl⟩
abbrev main_call8_cst_0 : Ref sig .tc := ⟨.hbm, 282, rfl⟩
abbrev main_call8_v2 : Ref sig .tc := ⟨.hbm, 283, rfl⟩
abbrev main_call8_v3 : Ref sig .tc := ⟨.hbm, 284, rfl⟩
abbrev main_call8_v4 : Ref sig .tc := ⟨.hbm, 285, rfl⟩
abbrev main_call8_v5 : Ref sig .tc := ⟨.hbm, 286, rfl⟩
abbrev main_call8_v6 : Ref sig .tc := ⟨.hbm, 287, rfl⟩
abbrev main_call8_v7 : Ref sig .tc := ⟨.hbm, 288, rfl⟩
abbrev main_call8_cst_1 : Ref sig .tc := ⟨.hbm, 289, rfl⟩
abbrev main_call8_v8 : Ref sig .tc := ⟨.hbm, 290, rfl⟩
abbrev main_call8_cst_2 : Ref sig .tc := ⟨.hbm, 291, rfl⟩
abbrev main_call8_v9 : Ref sig .tc := ⟨.hbm, 292, rfl⟩
abbrev main_call8_v10 : Ref sig .tc := ⟨.hbm, 293, rfl⟩
abbrev main_call8_v11 : Ref sig .tc := ⟨.hbm, 294, rfl⟩
abbrev main_call8_v12 : Ref sig .tc := ⟨.hbm, 295, rfl⟩
abbrev main_call8_cst_3 : Ref sig .tc := ⟨.hbm, 296, rfl⟩
abbrev main_call8_v13 : Ref sig .tc := ⟨.hbm, 297, rfl⟩
abbrev main_call8_cst_4 : Ref sig .tc := ⟨.hbm, 298, rfl⟩
abbrev main_call8_call0_v0 : Ref sig .tc := ⟨.hbm, 299, rfl⟩
abbrev main_call8_call0_v1 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_cst_38 : Ref sig .tc := ⟨.hbm, 304, rfl⟩
abbrev main_v167 : Ref sig .tc := ⟨.hbm, 305, rfl⟩
abbrev main_v168 : Ref sig .tc := ⟨.hbm, 306, rfl⟩
abbrev main_v169 : Ref sig .tc := ⟨.hbm, 307, rfl⟩
abbrev main_v170 : Ref sig .tc := ⟨.hbm, 308, rfl⟩
abbrev main_v171 : Ref sig .tc := ⟨.hbm, 309, rfl⟩
abbrev main_cst_39 : Ref sig .tc := ⟨.hbm, 310, rfl⟩
abbrev main_v172 : Ref sig .tc := ⟨.hbm, 311, rfl⟩
abbrev main_v173 : Ref sig .tc := ⟨.hbm, 312, rfl⟩
abbrev main_cst_40 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_v205 : Ref sig .tc := ⟨.hbm, 345, rfl⟩
abbrev main_v206 : Ref sig .tc := ⟨.hbm, 346, rfl⟩
abbrev main_v207 : Ref sig .tc := ⟨.hbm, 347, rfl⟩
abbrev main_v208 : Ref sig .tc := ⟨.hbm, 348, rfl⟩
abbrev main_v209 : Ref sig .tc := ⟨.hbm, 349, rfl⟩
abbrev main_cst_41 : Ref sig .tc := ⟨.hbm, 350, rfl⟩
abbrev main_v210 : Ref sig .tc := ⟨.hbm, 351, rfl⟩
abbrev main_v211 : Ref sig .tc := ⟨.hbm, 352, rfl⟩
abbrev main_v212 : Ref sig .tc := ⟨.hbm, 353, rfl⟩
abbrev main_cst_42 : Ref sig .tc := ⟨.hbm, 354, rfl⟩
abbrev main_v213 : Ref sig .tc := ⟨.hbm, 355, rfl⟩
abbrev main_cst_43 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_cst_44 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_cst_45 : Ref sig .tc := ⟨.hbm, 377, rfl⟩
abbrev main_v233 : Ref sig .tc := ⟨.hbm, 378, rfl⟩
abbrev main_v234 : Ref sig .tc := ⟨.hbm, 379, rfl⟩
abbrev main_cst_46 : Ref sig .tc := ⟨.hbm, 380, rfl⟩
abbrev main_v235 : Ref sig .tc := ⟨.hbm, 381, rfl⟩
abbrev main_v236 : Ref sig .tc := ⟨.hbm, 382, rfl⟩
abbrev main_c_47 : Ref sig .tc := ⟨.hbm, 383, rfl⟩
abbrev main_call10_cst : Ref sig .tc := ⟨.hbm, 384, rfl⟩
abbrev main_call10_v0 : Ref sig .tc := ⟨.hbm, 385, rfl⟩
abbrev main_call10_v1 : Ref sig .tc := ⟨.hbm, 386, rfl⟩
abbrev main_call10_cst_0 : Ref sig .tc := ⟨.hbm, 387, rfl⟩
abbrev main_call10_v2 : Ref sig .tc := ⟨.hbm, 388, rfl⟩
abbrev main_call10_v3 : Ref sig .tc := ⟨.hbm, 389, rfl⟩
abbrev main_call10_v4 : Ref sig .tc := ⟨.hbm, 390, rfl⟩
abbrev main_call10_v5 : Ref sig .tc := ⟨.hbm, 391, rfl⟩
abbrev main_call10_v6 : Ref sig .tc := ⟨.hbm, 392, rfl⟩
abbrev main_call10_v7 : Ref sig .tc := ⟨.hbm, 393, rfl⟩
abbrev main_call10_cst_1 : Ref sig .tc := ⟨.hbm, 394, rfl⟩
abbrev main_call10_v8 : Ref sig .tc := ⟨.hbm, 395, rfl⟩
abbrev main_call10_cst_2 : Ref sig .tc := ⟨.hbm, 396, rfl⟩
abbrev main_call10_v9 : Ref sig .tc := ⟨.hbm, 397, rfl⟩
abbrev main_call10_v10 : Ref sig .tc := ⟨.hbm, 398, rfl⟩
abbrev main_call10_v11 : Ref sig .tc := ⟨.hbm, 399, rfl⟩
abbrev main_call10_v12 : Ref sig .tc := ⟨.hbm, 400, rfl⟩
abbrev main_call10_cst_3 : Ref sig .tc := ⟨.hbm, 401, rfl⟩
abbrev main_call10_v13 : Ref sig .tc := ⟨.hbm, 402, rfl⟩
abbrev main_call10_cst_4 : Ref sig .tc := ⟨.hbm, 403, rfl⟩
abbrev main_call10_call0_v0 : Ref sig .tc := ⟨.hbm, 404, rfl⟩
abbrev main_call10_call0_v1 : Ref sig .tc := ⟨.hbm, 405, rfl⟩
abbrev main_v237 : Ref sig .tc := ⟨.hbm, 406, rfl⟩
abbrev main_v238 : Ref sig .tc := ⟨.hbm, 407, rfl⟩
abbrev main_v239 : Ref sig .tc := ⟨.hbm, 408, rfl⟩
abbrev main_cst_48 : Ref sig .tc := ⟨.hbm, 409, rfl⟩
abbrev main_v240 : Ref sig .tc := ⟨.hbm, 410, rfl⟩
abbrev main_v241 : Ref sig .tc := ⟨.hbm, 411, rfl⟩
abbrev main_v242 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_v246 : Ref sig .tc := ⟨.hbm, 416, rfl⟩
abbrev main_v247 : Ref sig .tc := ⟨.hbm, 417, rfl⟩
abbrev main_v248 : Ref sig .tc := ⟨.hbm, 418, rfl⟩
abbrev main_v249 : Ref sig .tc := ⟨.hbm, 419, rfl⟩
abbrev main_v250 : Ref sig .tc := ⟨.hbm, 420, rfl⟩
abbrev main_v251 : Ref sig .tc := ⟨.hbm, 421, rfl⟩

abbrev nD : Nat := 1
abbrev τ : Topo := Topo.v7x

variable {F : FTy → Type} [FloatOps F]
-- ==== Proof.Frames.lean ====
/- The claims that say nothing of the values: both forms of the kernel and the reference run and leave their arguments, and
   each literal that is named stands for its number. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Lib.Quiescent

@[expose] public section

noncomputable section

namespace Cert.Proof

open Idealize.ShloMosaic Idealize.SL.Sem

/-- The kernel runs on any memory and leaves its arguments. -/
theorem frame_p : Cert.quiescent_Kernel := fun m ρ _ => Cert.Kernel.Gen.frame m ρ

/-- The kernel with its literals named runs on any memory and leaves its arguments. -/
theorem frame_pi : Cert.quiescent_KernelIdeal := fun m ρ _ => Cert.KernelIdeal.Gen.frame m ρ

/-- The same under the precondition of the value claim. -/
theorem frame_pi_finite : Cert.quiescent_KernelIdeal_pre_finite := fun m ρ _ => Cert.KernelIdeal.Gen.frame m ρ

/-- The reference runs on any memory, leaves its arguments, and has no semaphores. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition of the value claim. -/
theorem frame_ri_finite : Cert.quiescent_ReferenceIdeal_pre_finite := fun m ρ _ => frame_ri m ρ trivial

/-- The table gives the mask of a neighbour already taken infinity, and the scale of the scores one over the root of 32. -/
theorem preserves : Cert.preserves_Kernel_KernelIdeal :=
  ⟨IdealRules.named_const.statement Cert.KernelIdeal.κ "taken" .f32 0x7149F2CA#32 ⊤ rfl,
   IdealRules.named_const.statement Cert.KernelIdeal.κ "scale" .f32 0x3E3504F3#32 (((Real.sqrt 32)⁻¹ : ℝ) : EReal) rfl⟩

end Cert.Proof

end
-- ==== Proof.Consts.lean ====
/- The float constants of the two programs, as the extended reals they denote. -/
module

public import Idealize.ShloMosaic.PureOps.Ideal

@[expose] public section

noncomputable section

namespace Cert.Consts

open Idealize.ShloMosaic

/-- The greatest float pattern is the top of the extended reals. -/
theorem inf_top : Ideal.ofBits .f32 0x7F800000#32 = ⊤ := by
  simp [Ideal.ofBits, Ideal.ieee]
/-- The least float pattern is the bottom of the extended reals. -/
theorem inf_bot : Ideal.ofBits .f32 0xFF800000#32 = ⊥ := by
  simp [Ideal.ofBits, Ideal.ieee]
/-- The number of pairs of a point and a neighbour. -/
theorem c2560 : Ideal.ofBits .f32 0x45200000#32 = ((2560 : ℝ) : EReal) := by
  simp [Ideal.ofBits, Ideal.ieee, -EReal.coe_mul]; norm_num
/-- The number of points. -/
theorem c256 : Ideal.ofBits .f32 0x43800000#32 = ((256 : ℝ) : EReal) := by
  simp [Ideal.ofBits, Ideal.ieee, -EReal.coe_mul]; norm_num
/-- The number of channels. -/
theorem c128 : Ideal.ofBits .f32 0x43000000#32 = ((128 : ℝ) : EReal) := by
  simp [Ideal.ofBits, Ideal.ieee, -EReal.coe_mul]; norm_num
/-- The number of neighbours. -/
theorem c10 : Ideal.ofBits .f32 0x41200000#32 = ((10 : ℝ) : EReal) := by
  simp [Ideal.ofBits, Ideal.ieee, -EReal.coe_mul]; norm_num
/-- The width of a head. -/
theorem c32 : Ideal.ofBits .f32 0x42000000#32 = ((32 : ℝ) : EReal) := by
  simp [Ideal.ofBits, Ideal.ieee, -EReal.coe_mul]; norm_num
/-- The constant two. -/
theorem c2 : Ideal.ofBits .f32 0x40000000#32 = ((2 : ℝ) : EReal) := by
  simp [Ideal.ofBits, Ideal.ieee, -EReal.coe_mul]; norm_num
/-- The constant minus two. -/
theorem cm2 : Ideal.ofBits .f32 0xC0000000#32 = ((-2 : ℝ) : EReal) := by
  simp [Ideal.ofBits, Ideal.ieee, -EReal.coe_mul]; norm_num
/-- The constant one half. -/
theorem chalf : Ideal.ofBits .f32 0x3F000000#32 = ((1 / 2 : ℝ) : EReal) := by
  simp [Ideal.ofBits, Ideal.ieee, -EReal.coe_mul]; norm_num
/-- The constant under the root of a normalisation is a positive real. -/
theorem ceps : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]
/-- The clip of a distance is a real. -/
theorem cclip : ∃ r : ℝ, Ideal.ofBits .f32 0x2B8CBCCC#32 = (r : EReal) := by
  simp [Ideal.ofBits, Ideal.ieee, -EReal.coe_mul]
/-- The slope of the activation is a real. -/
theorem cslope : ∃ r : ℝ, Ideal.ofBits .f32 0x3E4CCCCD#32 = (r : EReal) := by
  simp [Ideal.ofBits, Ideal.ieee, -EReal.coe_mul]
/-- The step of the frequencies is a real. -/
theorem cfreq : ∃ r : ℝ, Ideal.ofBits .f32 0xBD935D8E#32 = (r : EReal) := by
  simp [Ideal.ofBits, Ideal.ieee, -EReal.coe_mul]
  exact ⟨_, (EReal.coe_neg _).symm⟩
/-- The kernel's step of the frequencies is twice the reference's. -/
theorem cfreq_two : Ideal.ofBits .f32 0xBE135D8E#32 = Ideal.ofBits .f32 0x40000000#32 * Ideal.ofBits .f32 0xBD935D8E#32 := by
  simp [Ideal.ofBits, Ideal.ieee, -EReal.coe_mul, ← EReal.coe_mul]; norm_num

end Cert.Consts

end
-- ==== Proof.Spec.lean ====
/- The mathematics both programs compute, written with plain functions of indices: the neighbours of a point, the two edge
   convolutions, the pointwise convolution, the angular position term and the attention. -/
module

public import Idealize.ShloMosaic.PureOps.Ideal
public import Idealize.ShloMosaic.Lib.SortFacts

@[expose] public section

noncomputable section

namespace Cert.Spec

open Idealize.ShloMosaic

/-- One row entry comes before another: it is smaller, or equal and further left. -/
def before {N : Nat} (d : Fin N → EReal) (a b : Fin N) : Bool := decide (d a < d b ∨ d a = d b ∧ a < b)

/-- The position of the `t`-th smallest entry of a row, equal entries from left to right. -/
def place {N : Nat} (d : Fin N → EReal) (t : Fin N) : Fin N := sortedFrom (before d) t

/-- One entry less the mean of all, over the root of the variance and a small constant. -/
def nrm {ι : Type} [Fintype ι] (cnt : EReal) (h : ι → EReal) (i : ι) : EReal :=
  Ideal.div (h i - Ideal.div (∑ j, h j) cnt)
    (Ideal.sqrt (Ideal.div (∑ j, (h j - Ideal.div (∑ j, h j) cnt) * (h j - Ideal.div (∑ j, h j) cnt)) cnt
      + Ideal.ofBits .f32 0x3727C5AC#32))

/-- The leaky activation. -/
def lk (x : EReal) : EReal := if 0 ≤ x then x else Ideal.ofBits .f32 0x3E4CCCCD#32 * x

/-- The greatest of the values. -/
def top {ι : Type} [Fintype ι] (h : ι → EReal) : EReal := Finset.univ.fold max (Ideal.ofBits .f32 0xFF800000#32) h

/-- The channel of a head. -/
def ch (h : Fin 4) (x : Fin 32) : Fin 128 := ⟨h.val * 32 + x.val, by omega⟩

/-- The arguments, read at plain indices. -/
structure Inputs where
  /-- the coordinates -/
  c : Fin 2 → Fin 256 → EReal
  /-- the features -/
  f : Fin 128 → Fin 256 → EReal
  /-- the first edge convolution's weight -/
  W1 : Fin 128 → Fin 256 → EReal
  /-- the second edge convolution's weight -/
  W2 : Fin 256 → Fin 256 → EReal
  /-- the pointwise convolution's weight -/
  W3 : Fin 128 → Fin 512 → EReal
  /-- the position term's first weight -/
  p1w : Fin 128 → Fin 128 → EReal
  /-- the position term's first bias -/
  p1b : Fin 128 → EReal
  /-- the query weight -/
  wq : Fin 128 → Fin 128 → EReal
  /-- the query bias -/
  bq : Fin 128 → EReal
  /-- the key weight -/
  wk : Fin 128 → Fin 128 → EReal
  /-- the key bias -/
  bk : Fin 128 → EReal
  /-- the value weight -/
  wv : Fin 128 → Fin 128 → EReal
  /-- the value bias -/
  bv : Fin 128 → EReal
  /-- the position term's second weight -/
  wp : Fin 128 → Fin 128 → EReal
  /-- the position term's second bias -/
  bp : Fin 128 → EReal
  /-- the output weight -/
  p2w : Fin 128 → Fin 128 → EReal
  /-- the output bias -/
  p2b : Fin 128 → EReal
  /-- the layer norm's weight -/
  lnw : Fin 128 → EReal
  /-- the layer norm's bias -/
  lnb : Fin 128 → EReal

namespace Inputs

variable (A : Inputs)

/-- The clipped squared distance of two points. -/
def dist (n m : Fin 256) : EReal :=
  max (Ideal.ofBits .f32 0x2B8CBCCC#32)
    (Ideal.ofBits .f32 0xC0000000#32 * ∑ i, A.c i n * A.c i m + ∑ i, A.c i n * A.c i n + ∑ i, A.c i m * A.c i m)

/-- The ten neighbours of a point: the second to the eleventh nearest. -/
def nb (n : Fin 256) (k : Fin 10) : Fin 256 := place (A.dist n) ⟨k.val + 1, by omega⟩

/-- An edge convolution: of the point's channels, and of the neighbour's less the point's. -/
def conv {O : Nat} (W : Fin O → Fin 256 → EReal) (g : Fin 128 → Fin 256 → EReal) (o : Fin O) (p : Fin 256 × Fin 10) : EReal :=
  ∑ i : Fin 128, g i p.1 * W o ⟨i.val, by omega⟩
    + ∑ i : Fin 128, (g i (A.nb p.1 p.2) - g i p.1) * W o ⟨128 + i.val, by omega⟩

/-- An edge layer: convolution, normalisation, activation and the greatest over the neighbours. -/
def edge {O : Nat} (W : Fin O → Fin 256 → EReal) (g : Fin 128 → Fin 256 → EReal) (o : Fin O) (n : Fin 256) : EReal :=
  top fun k : Fin 10 => lk (nrm (Ideal.ofBits .f32 0x45200000#32) (A.conv W g o) (n, k))

/-- The first edge layer. -/
def x1 (o : Fin 128) (n : Fin 256) : EReal := A.edge A.W1 A.f o n

/-- The second edge layer. -/
def x2 (o : Fin 256) (n : Fin 256) : EReal := A.edge A.W2 A.x1 o n

/-- The features and the two layers, one after another. -/
def cat (x : Fin 512) (n : Fin 256) : EReal :=
  if h : x.val < 128 then A.f ⟨x.val, h⟩ n
  else if h : x.val - 128 < 128 then A.x1 ⟨x.val - 128, h⟩ n
  else A.x2 ⟨x.val - 128 - 128, by omega⟩ n

/-- The pointwise convolution. -/
def h3 (o : Fin 128) (n : Fin 256) : EReal := ∑ x : Fin 512, A.cat x n * A.W3 o x

/-- The features of a point after the three layers. -/
def x3 (n : Fin 256) (o : Fin 128) : EReal := lk (nrm (Ideal.ofBits .f32 0x43800000#32) (A.h3 o) n)

/-- A linear layer of those features. -/
def lin (w : Fin 128 → Fin 128 → EReal) (b : Fin 128 → EReal) (n : Fin 256) (j : Fin 128) : EReal :=
  ∑ x, A.x3 n x * w j x + b j

/-- From a point to its neighbour. -/
def toNb (n : Fin 256) (k : Fin 10) (i : Fin 2) : EReal := A.c i (A.nb n k) - A.c i n

/-- From a point to another. -/
def toPt (n m : Fin 256) (i : Fin 2) : EReal := A.c i m - A.c i n

/-- The angle between the two, scaled. -/
def ang (n m : Fin 256) (k : Fin 10) : EReal :=
  Ideal.atan2 (∑ i, A.toNb n k i * A.toPt n m i)
    (Ideal.sqrt (∑ i, A.toNb n k i * A.toNb n k i) * Ideal.sqrt (∑ i, A.toPt n m i * A.toPt n m i))
    * Ideal.ofBits .f32 0x3F000000#32

/-- The frequency of a pair of channels. -/
def fr (j : Fin 64) : EReal :=
  Ideal.exp (Ideal.ofBits .f32 0x40000000#32 * ((((BitVec.ofNat 32 j.val).toInt : ℝ)) : EReal)
    * Ideal.ofBits .f32 0xBD935D8E#32)

/-- The sinusoidal embedding of an angle: sines at even channels, cosines at odd ones. -/
def emb (n m : Fin 256) (k : Fin 10) (x : Fin 128) : EReal :=
  if x.val % 2 < 1 then Ideal.sin (A.ang n m k * fr ⟨x.val / 2, by omega⟩)
  else Ideal.cos (A.ang n m k * fr ⟨x.val / 2, by omega⟩)

/-- The position term of two points: a linear layer of the embedding, its mean over the neighbours. -/
def pos (n m : Fin 256) (j : Fin 128) : EReal :=
  Ideal.div (∑ k : Fin 10, (∑ x, A.emb n m k x * A.p1w j x + A.p1b j)) (Ideal.ofBits .f32 0x41200000#32)

/-- The second linear layer of the position term. -/
def pp (n m : Fin 256) (j : Fin 128) : EReal := ∑ x, A.pos n m x * A.wp j x + A.bp j

/-- The score of two points in a head. -/
def score (h : Fin 4) (n m : Fin 256) : EReal :=
  Ideal.div (∑ x, A.lin A.wq A.bq n (ch h x) * A.lin A.wk A.bk m (ch h x)
      + ∑ x, A.lin A.wq A.bq n (ch h x) * A.pp n m (ch h x))
    (Ideal.sqrt (Ideal.ofBits .f32 0x42000000#32))

/-- The weight of two points in a head, before it is divided by the sum. -/
def ex (h : Fin 4) (n m : Fin 256) : EReal := Ideal.exp (A.score h n m - top fun m' => A.score h n m')

/-- The attention's output. -/
def hid (n : Fin 256) (x : Fin 128) : EReal :=
  ∑ m, Ideal.div (A.ex ⟨x.val / 32, by omega⟩ n m) (∑ m', A.ex ⟨x.val / 32, by omega⟩ n m') * A.lin A.wv A.bv m x

/-- The features with the attention's linear layer added. -/
def y (n : Fin 256) (o : Fin 128) : EReal := A.x3 n o + (∑ x, A.hid n x * A.p2w o x + A.p2b o)

/-- The result: the layer norm. -/
def out (n : Fin 256) (o : Fin 128) : EReal :=
  nrm (Ideal.ofBits .f32 0x43000000#32) (A.y n) o * A.lnw o + A.lnb o

end Inputs

end Cert.Spec

end
-- ==== Proof.Sorting.lean ====
/- Facts about the order of a row: what the stable sort picks, and what a fold of a minimum or maximum picks. -/
module

public import proofs.«01_k».proof.Proof.Spec

@[expose] public section

noncomputable section

namespace Cert.Spec

open Idealize.ShloMosaic

variable {N : Nat}

/-- A stable sort of positions in order that compares the values alone is the sort that breaks ties by the position. -/
theorem stableSort_before (d : Fin N → EReal) (l : List (Fin N)) (hl : l.Pairwise (· < ·)) :
    stableSort (fun a b => decide (d a < d b)) l = stableSort (before d) l := by
  induction l with
  | nil => rfl
  | cons a l ih =>
    have h := List.pairwise_cons.1 hl
    unfold stableSort
    rw [ih h.2]
    refine insertBefore_congr _ _ _ _ fun b hb => ?_
    have hab : a < b := h.1 b ((perm_stableSort _ l).mem_iff.1 hb)
    unfold before
    rw [decide_eq_decide]
    exact ⟨Or.inl, fun h => h.elim id fun h => absurd h.2 (not_lt.2 hab.le)⟩

/-- The same of the sort's permutation. -/
theorem sortedFrom_lt (d : Fin N → EReal) : sortedFrom (fun a b => decide (d a < d b)) = place d := by
  have h : sortPositions N (fun a b => decide (d a < d b)) = sortPositions N (before d) :=
    stableSort_before d _ (List.pairwise_lt_finRange N)
  funext k
  unfold place sortedFrom
  rw [List.get_of_eq h]
  rfl

/-- Every position is picked once. -/
theorem place_injective (d : Fin N → EReal) : Function.Injective (place d) := sortedFrom_injective _
theorem place_surjective (d : Fin N → EReal) : Function.Surjective (place d) := sortedFrom_surjective _

/-- What is picked earlier comes before. -/
theorem place_lt (d : Fin N → EReal) (i j : Fin N) (h : i < j) :
    d (place d i) < d (place d j) ∨ d (place d i) = d (place d j) ∧ place d i < place d j := by
  have hn : before d (place d j) (place d i) = false := by
    refine sortedFrom_noInversion (before d) (before d) ?_ (fun _ _ h => h) ?_ i j h
    · intro a b hab
      simp only [before, decide_eq_true_eq, decide_eq_false_iff_not, not_or, not_and, not_lt] at *
      rcases hab with h | ⟨h, h'⟩
      · exact ⟨h.le, fun e => absurd e (ne_of_gt h)⟩
      · exact ⟨h.le, fun _ => h'.le⟩
    · intro a b c hab hbc
      simp only [before, decide_eq_false_iff_not, not_or, not_and, not_lt] at *
      refine ⟨hbc.1.trans hab.1, fun e => ?_⟩
      have h1 : d b = d a := le_antisymm hab.1 (e ▸ hbc.1)
      have h2 : d b = d c := h1.trans e
      exact (hbc.2 h2).trans (hab.2 h1.symm)
  have hne : place d i ≠ place d j := fun e => (ne_of_lt h) (place_injective d e)
  simp only [before, decide_eq_false_iff_not, not_or, not_and, not_lt] at hn
  rcases lt_or_eq_of_le hn.1 with h | h
  · exact Or.inl h
  · exact Or.inr ⟨h, lt_of_le_of_ne (hn.2 h.symm) hne⟩

/-- A fold whose one value absorbs every other is that value. -/
theorem fold_absorb {ι α : Type} [Fintype ι] [DecidableEq ι] (op : α → α → α) [Std.Commutative op] [Std.Associative op]
    (b v : α) (g : ι → α) (i : ι) (hi : g i = v) (hb : op v b = v) (h : ∀ m, op v (g m) = v) :
    Finset.univ.fold op b g = v := by
  have hs : ∀ s : Finset ι, op v (s.fold op b g) = v := fun s => by
    induction s using Finset.induction_on with
    | empty => simpa using hb
    | insert a s ha ih => rw [Finset.fold_insert ha, ← Std.Associative.assoc (op := op), h a, ih]
  rw [← Finset.insert_erase (Finset.mem_univ i), Finset.fold_insert (Finset.notMem_erase i _), hi, hs]

/-- The least entry of a row. -/
theorem fold_min {ι : Type} [Fintype ι] [DecidableEq ι] (g : ι → EReal) (i : ι) (h : ∀ m, g i ≤ g m) :
    Finset.univ.fold min ⊤ g = g i :=
  fold_absorb min ⊤ (g i) g i rfl (min_eq_left le_top) fun m => min_eq_left (h m)

end Cert.Spec

end
-- ==== Proof.KernelOps.lean ====
/- The kernel's neighbour rounds as vector expressions: the distances, one round's one-hot rows, and the distances with the
   chosen entries put out of reach. -/
module

public import proofs.«01_k».proof.Proof.Gen.KernelIdeal.Frame
public import Idealize.ShloMosaic.Lib.Pointwise
public import proofs.«01_k».proof.Proof.Consts
public import proofs.«01_k».proof.Proof.Sorting

@[expose] public section

set_option maxRecDepth 16384

noncomputable section

namespace Cert.KernelIdeal.Value

open Idealize.ShloMosaic Idealize.ShloMosaic.Tactic
open Cert.KernelIdeal Cert.KernelIdeal.Gen

/-- The clipped squared distances of all pairs of points. -/
def kDist (v0 : Vec Ideal S2x256 .f32) : FVec Ideal S256x256 .f32 :=
  maximumf (addf (addf (mulf (broadcast S256x256 (Scalar.ofBits .f32 0xC0000000#32))
      (matmul dot_S256x2_S2x256_S256x256_1_0_0_1_n_n none (k0_pay3 v0) (k0_pay1 v0) (constant S256x256 .f32 0x00000000#32)))
      (broadcastTo S256x256 (shapeCast S256x1 (multiReduction .add [1] S256 (mulf (k0_pay3 v0) (k0_pay3 v0)) 0x00000000#32
        reduces_S256x2_S256 (.inl rfl) rfl) shapeCasts_S256_S256x1) broadcasts_S256x1_S256x256))
      (broadcastTo S256x256 (transpose S1x256 [1, 0] (shapeCast S256x1 (multiReduction .add [1] S256
        (mulf (k0_pay3 v0) (k0_pay3 v0)) 0x00000000#32 reduces_S256x2_S256 (.inl rfl) rfl) shapeCasts_S256_S256x1)
        transposes_S256x1_p1_0_S1x256) broadcasts_S1x256_S256x256))
    (broadcast S256x256 (Scalar.ofBits .f32 0x2B8CBCCC#32))

/-- One round: in each row, one at the first place of the smallest entry and zero elsewhere. -/
def kOh (w : FVec Ideal S256x256 .f32) : FVec Ideal S256x256 .f32 :=
  sitofp .f32 (extui 32 (cmpi .eq (iota .tc S256x256 32 [1] iota_S256x256_d1_w32)
    (broadcastTo S256x256 (shapeCast S256x1 (multiReductionI .minsi [1] S256
      (select (cmpf .oeq w (broadcastTo S256x256 (shapeCast S256x1 (multiReduction .minimumf [1] S256 w 0x7F800000#32
        reduces_S256x256_S256 (.inl rfl) rfl) shapeCasts_S256_S256x1) broadcasts_S256x1_S256x256))
        (iota .tc S256x256 32 [1] iota_S256x256_d1_w32) (broadcast S256x256 256#32))
      2147483647#32 reduces_S256x256_S256 rfl) shapeCasts_S256_S256x1) broadcasts_S256x1_S256x256)) natLt_1_32)

/-- The entries with the round's chosen ones put at the greatest value. -/
def kMask (w : FVec Ideal S256x256 .f32) : FVec Ideal S256x256 .f32 :=
  select (cmpf .ogt (kOh w) (broadcast S256x256 (Scalar.ofBits .f32 0x00000000#32)))
    (broadcast S256x256 (Named.named (F := Ideal) κ "taken" 0x7149F2CA#32)) w

/-- The rows of one-hots the kernel keeps, round by round. -/
def kOhs (v0 : Vec Ideal S2x256 .f32) (k : Fin 10) : FVec Ideal S256x256 .f32 := kOh (kMask^[k.val + 1] (kDist v0))

variable (x0 : Vec Ideal S2x256 .f32) (x1 : Vec Ideal S128x256 .f32) (x2 : Vec Ideal S128x256 .f32)
  (x3 : Vec Ideal S256x256 .f32) (x4 : Vec Ideal S128x512 .f32) (x5 : Vec Ideal S128x64 .f32) (x6 : Vec Ideal S128x64 .f32)
  (x7 : Vec Ideal S1x128 .f32) (x8 : Vec Ideal S128x128 .f32) (x9 : Vec Ideal S1x128 .f32) (x10 : Vec Ideal S128x128 .f32)
  (x11 : Vec Ideal S1x128 .f32) (x12 : Vec Ideal S128x128 .f32) (x13 : Vec Ideal S1x128 .f32)
  (x14 : Vec Ideal S128x128 .f32) (x15 : Vec Ideal S1x128 .f32)

/-! ### The printed rounds are these -/

theorem round0 : k0_pay92 x0 x1 x2 x3 x4 x5 x6 x7 x8 x9 x10 x11 x12 x13 x14 x15
    = kOhs (View.ld x0 r0_0) 0 := rfl
theorem round1 : k0_pay93 x0 x1 x2 x3 x4 x5 x6 x7 x8 x9 x10 x11 x12 x13 x14 x15
    = kOhs (View.ld x0 r0_0) 1 := rfl
theorem round2 : k0_pay95 x0 x1 x2 x3 x4 x5 x6 x7 x8 x9 x10 x11 x12 x13 x14 x15
    = kOhs (View.ld x0 r0_0) 2 := rfl
theorem round3 : k0_pay98 x0 x1 x2 x3 x4 x5 x6 x7 x8 x9 x10 x11 x12 x13 x14 x15
    = kOhs (View.ld x0 r0_0) 3 := rfl
theorem round4 : k0_pay99 x0 x1 x2 x3 x4 x5 x6 x7 x8 x9 x10 x11 x12 x13 x14 x15
    = kOhs (View.ld x0 r0_0) 4 := rfl
theorem round5 : k0_pay101 x0 x1 x2 x3 x4 x5 x6 x7 x8 x9 x10 x11 x12 x13 x14 x15
    = kOhs (View.ld x0 r0_0) 5 := rfl
theorem round6 : k0_pay103 x0 x1 x2 x3 x4 x5 x6 x7 x8 x9 x10 x11 x12 x13 x14 x15
    = kOhs (View.ld x0 r0_0) 6 := rfl
theorem round7 : k0_pay104 x0 x1 x2 x3 x4 x5 x6 x7 x8 x9 x10 x11 x12 x13 x14 x15
    = kOhs (View.ld x0 r0_0) 7 := rfl
theorem round8 : k0_pay106 x0 x1 x2 x3 x4 x5 x6 x7 x8 x9 x10 x11 x12 x13 x14 x15
    = kOhs (View.ld x0 r0_0) 8 := rfl
theorem round9 : k0_pay107 x0 x1 x2 x3 x4 x5 x6 x7 x8 x9 x10 x11 x12 x13 x14 x15
    = kOhs (View.ld x0 r0_0) 9 := rfl

/-! ### What they read -/

/-- A small word's number. -/
theorem toInt_ofNat (a : Nat) (h : a < 2 ^ 31) : (BitVec.ofNat 32 a).toInt = a := by
  have h' : a < 2147483648 := h
  rw [BitVec.toInt_eq_toNat_cond, BitVec.toNat_ofNat, Nat.mod_eq_of_lt (by omega), if_pos (by omega)]

/-- The smaller of two small words. -/
theorem minsi_small (a b : Nat) (h : a ≤ b) (hb : b < 2 ^ 31) :
    IntOp.minsi (BitVec.ofNat 32 a) (BitVec.ofNat 32 b) = BitVec.ofNat 32 a := by
  have ha : (BitVec.ofNat 32 a).toInt = a := toInt_ofNat a (by omega)
  have hb : (BitVec.ofNat 32 b).toInt = b := toInt_ofNat b (by omega)
  unfold IntOp.minsi
  rw [BitVec.slt_eq_decide, ha, hb]
  split
  · rfl
  · next hn => rw [show b = a by simp at hn; omega]

/-- Two small words are equal only when their numbers are. -/
theorem ofNat_inj (m i : Fin 256) : BitVec.ofNat 32 m.val = BitVec.ofNat 32 i.val ↔ m = i := by
  refine ⟨fun h => Fin.ext ?_, fun h => by rw [h]⟩
  have := congrArg BitVec.toNat h
  simp only [BitVec.toNat_ofNat] at this
  omega

/-- A comparison's bit, as a number. -/
theorem sitofp_bit (p : Prop) [Decidable p] :
    FloatOps.sitofp (F := Ideal) .f32 (BitVec.setWidth 32 (BitVec.ofBool (decide p))) = (if p then (1 : EReal) else 0 : EReal) := by
  by_cases h : p
  · rw [if_pos h]
    show ((((BitVec.setWidth 32 (BitVec.ofBool (decide p))).toInt : ℝ)) : EReal) = 1
    simp [h]
  · rw [if_neg h]
    show ((((BitVec.setWidth 32 (BitVec.ofBool (decide p))).toInt : ℝ)) : EReal) = 0
    simp [h]

/-- Place `i` of a row is the first of the smallest entries. -/
def First (w : S256x256.Idx → EReal) (n i : Fin 256) : Prop :=
  ∀ m, w (ix2 n i) < w (ix2 n m) ∨ w (ix2 n i) = w (ix2 n m) ∧ i ≤ m

/-- A round's row reads one at the first place of the smallest entry and zero elsewhere. -/
theorem kOh_read (w : S256x256.Idx → EReal) (n i m : Fin 256) (h : First w n i) :
    kOh w (ix2 n m) = (if m = i then (1 : EReal) else 0 : EReal) := by
  pointwise [kOh]
  rw [Consts.inf_top, Spec.fold_min (fun x => w (ix2 n x)) i (fun m => (h m).elim le_of_lt fun h => h.1.le)]
  rw [Spec.fold_absorb IntOp.minsi 2147483647#32 (BitVec.ofNat 32 i.val) _ i (if_pos rfl)
    (minsi_small i.val 2147483647 (by omega) (by omega)) ?_]
  · have hb : IntOp.cmpi .eq (BitVec.ofNat 32 m.val) (BitVec.ofNat 32 i.val) = BitVec.ofBool (decide (m = i)) := by
      unfold IntOp.cmpi
      by_cases hm : m = i
      · simp [hm]
      · have hne : ¬ BitVec.ofNat 32 m.val = BitVec.ofNat 32 i.val := fun e => hm ((ofNat_inj m i).1 e)
        rw [show (BitVec.ofNat 32 m.val == BitVec.ofNat 32 i.val) = false from beq_eq_false_iff_ne.2 hne, decide_eq_false hm]
    rw [hb]
    exact sitofp_bit _
  · intro m
    split
    · next e =>
      refine minsi_small _ _ ?_ (by omega)
      rcases h m with h | h
      · exact absurd e (ne_of_gt h)
      · exact h.2
    · exact minsi_small _ 256 (by omega) (by omega)

/-- A round puts the chosen entry at the top. -/
theorem kMask_read (w : S256x256.Idx → EReal) (n i m : Fin 256) (h : First w n i) :
    kMask w (ix2 n m) = (if m = i then ⊤ else w (ix2 n m) : EReal) := by
  have ht : Named.named (F := Ideal) κ "taken" (φ := .f32) 0x7149F2CA#32 = ⊤ :=
    IdealRules.named_const.ideal_named_scalar _ _ _ _ rfl
  have ho := kOh_read w n i m h
  pointwise [kMask]
  rw [ho, ht]
  by_cases hm : m = i
  · rw [if_pos hm, if_pos hm, if_pos (by norm_num)]
  · rw [if_neg hm, if_neg hm, if_neg (by norm_num)]

/-- The first of the smallest entries once the first `t` places are at the top is the next place. -/
theorem first_place (v w : S256x256.Idx → EReal) (n : Fin 256) (hd : ∀ m, v (ix2 n m) < ⊤) (t : Fin 256)
    (hw : ∀ m, w (ix2 n m) = if ∃ s : Fin 256, s < t ∧ Spec.place (fun m => v (ix2 n m)) s = m then ⊤ else v (ix2 n m)) :
    First w n (Spec.place (fun m => v (ix2 n m)) t) := by
  have hself : w (ix2 n (Spec.place (fun m => v (ix2 n m)) t)) = v (ix2 n (Spec.place (fun m => v (ix2 n m)) t)) := by
    rw [hw, if_neg]
    rintro ⟨s, hs, e⟩
    exact (ne_of_lt hs) (Spec.place_injective _ e)
  intro m
  rw [hself, hw m]
  obtain ⟨s, rfl⟩ := Spec.place_surjective (fun m => v (ix2 n m)) m
  by_cases hs : s < t
  · rw [if_pos ⟨s, hs, rfl⟩]
    exact Or.inl (hd _)
  · rw [if_neg]
    · rcases eq_or_lt_of_le (not_lt.1 hs) with e | e
      · exact Or.inr ⟨by rw [e], by rw [e]⟩
      · exact (Spec.place_lt (fun m => v (ix2 n m)) t s e).imp id fun h => ⟨h.1, h.2.le⟩
    · rintro ⟨s', hs', e⟩
      exact hs (Spec.place_injective _ e ▸ hs')

/-- After `t` rounds the entries of the first `t` places are at the top and the others are as they were. -/
theorem rounds (v : S256x256.Idx → EReal) (n : Fin 256) (hd : ∀ m, v (ix2 n m) < ⊤) (t : Nat) (ht : t < 256) (m : Fin 256) :
    kMask^[t] v (ix2 n m)
      = (if ∃ s : Fin 256, s < ⟨t, ht⟩ ∧ Spec.place (fun m => v (ix2 n m)) s = m then ⊤ else v (ix2 n m) : EReal) := by
  induction t generalizing m with
  | zero =>
    rw [if_neg]
    · rfl
    · rintro ⟨s, hs, _⟩
      exact absurd hs (by simp [Fin.lt_def])
  | succ t ih =>
    rw [Function.iterate_succ_apply', kMask_read _ n _ m (first_place v _ n hd ⟨t, by omega⟩ (ih (by omega))), ih (by omega)]
    by_cases hm : m = Spec.place (fun m => v (ix2 n m)) ⟨t, by omega⟩
    · rw [if_pos hm, if_pos ⟨⟨t, by omega⟩, by simp [Fin.lt_def], hm.symm⟩]
    · rw [if_neg hm]
      congr 1
      refine propext ⟨fun ⟨s, hs, e⟩ => ⟨s, lt_trans hs (by simp [Fin.lt_def]), e⟩, fun ⟨s, hs, e⟩ => ⟨s, ?_, e⟩⟩
      have hne : s ≠ ⟨t, by omega⟩ := fun e' => hm (by rw [← e, e'])
      have h1 : s.val < t + 1 := hs
      have h2 : s.val ≠ t := fun e' => hne (Fin.ext e')
      exact Fin.lt_def.2 (by simp only; omega)

/-- The `k`-th one-hot rows read one at the place after the first `k + 1`. -/
theorem kOhs_read (v0 : S2x256.Idx → EReal) (d : Fin 256 → Fin 256 → EReal) (hk : ∀ n m, kDist v0 (ix2 n m) = d n m)
    (hd : ∀ n m, d n m < ⊤) (k : Fin 10) (n m : Fin 256) :
    kOhs v0 k (ix2 n m) = (if m = Spec.place (d n) ⟨k.val + 1, by omega⟩ then (1 : EReal) else 0 : EReal) := by
  have hf : (fun m => (kDist v0 : S256x256.Idx → EReal) (ix2 n m)) = d n := funext (hk n)
  have hd' : ∀ m, (kDist v0 : S256x256.Idx → EReal) (ix2 n m) < ⊤ := fun m => (hk n m).symm ▸ hd n m
  rw [← hf]
  exact kOh_read _ n _ m (first_place _ _ n hd' ⟨k.val + 1, by omega⟩ (rounds _ n hd' _ (by omega)))

/-- The distances the kernel computes. -/
theorem kDist_read (w : S2x256.Idx → EReal) (n m : Fin 256) :
    kDist w (ix2 n m) = (max (Ideal.ofBits .f32 0x2B8CBCCC#32)
      (Ideal.ofBits .f32 0xC0000000#32 * ∑ i, w (ix2 i n) * w (ix2 i m) + ∑ i, w (ix2 i n) * w (ix2 i n)
        + ∑ i, w (ix2 i m) * w (ix2 i m)) : EReal) := by
  rw [max_comm]
  pointwise [kDist, k0_pay3, k0_pay1]

end Cert.KernelIdeal.Value

end
-- ==== Proof.Reals.lean ====
/- Which of the values are real numbers, and the laws of sums and products with a real factor. -/
module

public import proofs.«01_k».proof.Proof.Sorting
public import proofs.«01_k».proof.Proof.Consts

@[expose] public section

noncomputable section

namespace Cert.Spec

open Idealize.ShloMosaic

/-- An extended real that is a real number. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact (h a).add ih
/-- The sum of reals, taken in the reals. -/
theorem coe_sum {ι : Type} (s : Finset ι) (g : ι → ℝ) : ((∑ j ∈ s, g j : ℝ) : EReal) = ∑ j ∈ s, ((g j : ℝ) : EReal) := by
  classical
  induction s using Finset.induction_on with
  | empty => simp
  | insert a s ha ih => rw [Finset.sum_insert ha, Finset.sum_insert ha, EReal.coe_add, ih]
/-- A quotient by a real other than zero. -/
theorem IsReal.div {x : EReal} (hx : IsReal x) (r : ℝ) (hr : r ≠ 0) : IsReal (Ideal.div x (r : EReal)) := by
  obtain ⟨a, rfl⟩ := hx
  rw [Ideal.div_coe hr]
  exact ⟨_, (EReal.coe_mul _ _).symm⟩

theorem IsReal.lt_top {x : EReal} (hx : IsReal x) : x < ⊤ := by
  obtain ⟨a, rfl⟩ := hx; exact EReal.coe_lt_top a

/-- The leaky activation of a real is a real. -/
theorem IsReal.lk {x : EReal} (hx : IsReal x) : IsReal (lk x) := by
  unfold Spec.lk
  split
  · exact hx
  · exact IsReal.mul Consts.cslope hx

/-- The greatest of reals, of one or more, is a real. -/
theorem IsReal.top {ι : Type} [Fintype ι] [DecidableEq ι] [Nonempty ι] (f : ι → EReal) (h : ∀ i, IsReal (f i)) :
    IsReal (top f) := by
  unfold Spec.top
  rw [Consts.inf_bot]
  obtain ⟨i, -, hi⟩ := Finset.exists_max_image Finset.univ f Finset.univ_nonempty
  rw [fold_absorb Max.max ⊥ (f i) f i rfl (max_eq_left bot_le) fun m => max_eq_left (hi m (Finset.mem_univ m))]
  exact h i

/-- A normalisation of reals is real. -/
theorem IsReal.nrm_of_real {ι : Type} [Fintype ι] (c : ℝ) (hc : 0 < c) (h : ι → EReal) (hh : ∀ i, IsReal (h i)) (i : ι) :
    IsReal (Spec.nrm (c : EReal) h i) := by
  unfold Spec.nrm
  have hm : IsReal (Ideal.div (∑ j, h j) (c : EReal)) := (IsReal.sum _ _ hh).div c hc.ne'
  choose g hg using fun j => (hh j).sub hm
  obtain ⟨e, he, hee⟩ := Consts.ceps
  simp only [hg, hee]
  have hv : ∑ j, ((g j : ℝ) : EReal) * ((g j : ℝ) : EReal) = ((∑ j, g j * g j : ℝ) : EReal) := by
    exact (Finset.sum_congr rfl fun j _ => (EReal.coe_mul _ _).symm).trans (coe_sum _ _).symm
  rw [hv, Ideal.div_coe hc.ne', ← EReal.coe_mul, ← EReal.coe_add, Ideal.sqrt_coe]
  have hpos : 0 < (∑ j, g j * g j) * (1 / c) + e :=
    add_pos_of_nonneg_of_pos (mul_nonneg (Finset.sum_nonneg fun j _ => mul_self_nonneg _) (one_div_nonneg.2 hc.le)) he
  first
  | exact (IsReal.coe _).div _ (Real.sqrt_pos.2 hpos).ne'
  | (rw [if_neg (not_lt.2 hpos.le)]; exact (IsReal.coe _).div _ (Real.sqrt_pos.2 hpos).ne')

/-- A real or an infinity. -/
theorem isReal_or (x : EReal) : IsReal x ∨ x = ⊥ ∨ x = ⊤ := by
  induction x with
  | bot => exact .inr (.inl rfl)
  | coe r => exact .inl ⟨r, rfl⟩
  | top => exact .inr (.inr rfl)

/-- A sum with an infinity among its terms is an infinity. -/
theorem sum_not_real {ι : Type} (s : Finset ι) (f : ι → EReal) (i : ι) (hi : i ∈ s) (h : ¬ IsReal (f i)) :
    ¬ IsReal (∑ j ∈ s, f j) := by
  classical
  rw [← Finset.add_sum_erase s f hi]
  generalize ∑ j ∈ s.erase i, f j = t
  rcases isReal_or (f i) with h' | h' | h'
  · exact absurd h' h
  · rw [h', EReal.bot_add]; rintro ⟨r, hr⟩; exact EReal.coe_ne_bot r hr.symm
  · rw [h']
    rcases isReal_or t with ⟨r, rfl⟩ | rfl | rfl
    · rw [EReal.top_add_coe]; rintro ⟨r, hr⟩; exact EReal.coe_ne_top r hr.symm
    · rw [EReal.add_bot]; rintro ⟨r, hr⟩; exact EReal.coe_ne_bot r hr.symm
    · rw [EReal.top_add_top]; rintro ⟨r, hr⟩; exact EReal.coe_ne_top r hr.symm

/-- The difference with an infinity, squared, is the greatest extended real. -/
theorem sq_sub {x m : EReal} (hm : ¬ IsReal m) : (x - m) * (x - m) = ⊤ := by
  rcases isReal_or m with h | rfl | rfl
  · exact absurd h hm
  · rcases isReal_or x with ⟨r, rfl⟩ | rfl | rfl <;> simp [sub_eq_add_neg]
  · rcases isReal_or x with ⟨r, rfl⟩ | rfl | rfl <;> simp [sub_eq_add_neg]

/-- A normalisation is real, whatever its entries: where one is infinite, so is the variance, and each quotient is zero. -/
theorem IsReal.nrm {ι : Type} [Fintype ι] (c : ℝ) (hc : 0 < c) (h : ι → EReal) (i : ι) :
    IsReal (Spec.nrm (c : EReal) h i) := by
  by_cases hh : ∀ i, IsReal (h i)
  · exact IsReal.nrm_of_real c hc h hh i
  · push Not at hh
    obtain ⟨k, hk⟩ := hh
    obtain ⟨e, he, hee⟩ := Consts.ceps
    have hp : 0 < 1 / c := one_div_pos.2 hc
    have hs := sum_not_real Finset.univ h k (Finset.mem_univ k) hk
    have hm : ¬ IsReal (Ideal.div (∑ j, h j) (c : EReal)) := by
      rw [Ideal.div_coe hc.ne']
      rcases isReal_or (∑ j, h j) with h' | h' | h'
      · exact absurd h' hs
      · rw [h', EReal.bot_mul_coe_of_pos hp]; rintro ⟨r, hr⟩; exact EReal.coe_ne_bot r hr.symm
      · rw [h', EReal.top_mul_coe_of_pos hp]; rintro ⟨r, hr⟩; exact EReal.coe_ne_top r hr.symm
    have hv : ∑ _j : ι, (⊤ : EReal) = ⊤ := by
      classical
      rw [← Finset.add_sum_erase _ _ (Finset.mem_univ k)]
      exact EReal.top_add_of_ne_bot (Finset.sum_induction _ (· ≠ ⊥) (fun a b ha hb => by simp [EReal.add_eq_bot_iff, ha, hb]) (by simp) (by simp))
    unfold Spec.nrm
    simp only [sq_sub hm, hv, hee]
    rw [Ideal.div_coe hc.ne' ⊤, EReal.top_mul_coe_of_pos hp, EReal.top_add_coe]
    refine ⟨0, ?_⟩
    show Ideal.div _ ⊤ = _
    unfold Ideal.div
    simp

/-- A real factor distributes over a sum with a real term. -/
theorem add_mul_coe (r : ℝ) (b : EReal) (w : ℝ) : ((r : EReal) + b) * (w : EReal) = ((r * w : ℝ) : EReal) + b * (w : EReal) := by
  rcases isReal_or b with ⟨b, rfl⟩ | rfl | rfl
  · rw [← EReal.coe_add, ← EReal.coe_mul, ← EReal.coe_mul, ← EReal.coe_add, add_mul]
  · rcases lt_trichotomy w 0 with h | rfl | h
    · rw [EReal.add_bot, EReal.bot_mul_coe_of_neg h, EReal.coe_add_top]
    · simp
    · rw [EReal.add_bot, EReal.bot_mul_coe_of_pos h, EReal.add_bot]
  · rcases lt_trichotomy w 0 with h | rfl | h
    · rw [EReal.coe_add_top, EReal.top_mul_coe_of_neg h, EReal.add_bot]
    · simp
    · rw [EReal.coe_add_top, EReal.top_mul_coe_of_pos h, EReal.coe_add_top]

/-- The same, the factor on the left. -/
theorem mul_add_coe (w r : ℝ) (b : EReal) : (w : EReal) * ((r : EReal) + b) = ((w * r : ℝ) : EReal) + (w : EReal) * b := by
  rw [mul_comm, add_mul_coe, mul_comm r, mul_comm b]

/-- The mean of ten reals with a bias each is their mean with the bias, be it infinite or not. -/
theorem mean_bias (t : Fin 10 → ℝ) (b : EReal) :
    (∑ k, ((t k : EReal) + b)) * ((1 / 10 : ℝ) : EReal) = (((∑ k, t k) * (1 / 10) : ℝ) : EReal) + b := by
  rw [Finset.sum_add_distrib, ← coe_sum, add_mul_coe]
  congr 1
  have h : (∑ _k : Fin 10, b) = b * ((10 : ℝ) : EReal) := by
    rw [Finset.sum_const, mul_comm]
    simp
    rfl
  rw [h, mul_assoc, ← EReal.coe_mul]
  norm_num

/-- A sum of reals with biases, through real weights: the biases' share stands apart. -/
theorem sum_bias {Y : Type} [Fintype Y] (r w : Y → ℝ) (b : Y → EReal) :
    ∑ y, ((r y : EReal) + b y) * (w y : EReal) = ((∑ y, r y * w y : ℝ) : EReal) + ∑ y, b y * (w y : EReal) := by
  rw [coe_sum, ← Finset.sum_add_distrib]
  exact Finset.sum_congr rfl fun y _ => add_mul_coe _ _ _

end Cert.Spec

end
-- ==== Proof.KernelPrep.lean ====
/- The kernel's first call as vector expressions over its arguments, from the one-hot rows to the features after the three
   layers, and what they read. -/
module

public import proofs.«01_k».proof.Proof.KernelOps
public import proofs.«01_k».proof.Proof.Reals
public import Idealize.ShloMosaic.Lib.Pipeline.Value

@[expose] public section

set_option maxRecDepth 16384

noncomputable section

namespace Cert.KernelIdeal.Value

open Idealize.ShloMosaic Idealize.ShloMosaic.Tactic
open Cert.KernelIdeal Cert.KernelIdeal.Gen

/-- Ten edges of 128 channels, one after another. -/
def kStack1 (e : Fin 10 → FVec Ideal S128x256 .f32) : FVec Ideal S10x128x256 .f32 :=
  concatenate S10x128x256 0 [
    ⟨S1x128x256, shapeCast S1x128x256 (e 0) shapeCasts_S128x256_S1x128x256⟩, ⟨S1x128x256, shapeCast S1x128x256 (e 1) shapeCasts_S128x256_S1x128x256⟩,
    ⟨S1x128x256, shapeCast S1x128x256 (e 2) shapeCasts_S128x256_S1x128x256⟩, ⟨S1x128x256, shapeCast S1x128x256 (e 3) shapeCasts_S128x256_S1x128x256⟩,
    ⟨S1x128x256, shapeCast S1x128x256 (e 4) shapeCasts_S128x256_S1x128x256⟩, ⟨S1x128x256, shapeCast S1x128x256 (e 5) shapeCasts_S128x256_S1x128x256⟩,
    ⟨S1x128x256, shapeCast S1x128x256 (e 6) shapeCasts_S128x256_S1x128x256⟩, ⟨S1x128x256, shapeCast S1x128x256 (e 7) shapeCasts_S128x256_S1x128x256⟩,
    ⟨S1x128x256, shapeCast S1x128x256 (e 8) shapeCasts_S128x256_S1x128x256⟩, ⟨S1x128x256, shapeCast S1x128x256 (e 9) shapeCasts_S128x256_S1x128x256⟩]
    concatenates_S1x128x256_S1x128x256_S1x128x256_S1x128x256_S1x128x256_S1x128x256_S1x128x256_S1x128x256_S1x128x256_S1x128x256_S10x128x256_d0

/-- Ten edges of 256 channels, one after another. -/
def kStack2 (e : Fin 10 → FVec Ideal S256x256 .f32) : FVec Ideal S10x256x256 .f32 :=
  concatenate S10x256x256 0 [
    ⟨S1x256x256, shapeCast S1x256x256 (e 0) shapeCasts_S256x256_S1x256x256⟩, ⟨S1x256x256, shapeCast S1x256x256 (e 1) shapeCasts_S256x256_S1x256x256⟩,
    ⟨S1x256x256, shapeCast S1x256x256 (e 2) shapeCasts_S256x256_S1x256x256⟩, ⟨S1x256x256, shapeCast S1x256x256 (e 3) shapeCasts_S256x256_S1x256x256⟩,
    ⟨S1x256x256, shapeCast S1x256x256 (e 4) shapeCasts_S256x256_S1x256x256⟩, ⟨S1x256x256, shapeCast S1x256x256 (e 5) shapeCasts_S256x256_S1x256x256⟩,
    ⟨S1x256x256, shapeCast S1x256x256 (e 6) shapeCasts_S256x256_S1x256x256⟩, ⟨S1x256x256, shapeCast S1x256x256 (e 7) shapeCasts_S256x256_S1x256x256⟩,
    ⟨S1x256x256, shapeCast S1x256x256 (e 8) shapeCasts_S256x256_S1x256x256⟩, ⟨S1x256x256, shapeCast S1x256x256 (e 9) shapeCasts_S256x256_S1x256x256⟩]
    concatenates_S1x256x256_S1x256x256_S1x256x256_S1x256x256_S1x256x256_S1x256x256_S1x256x256_S1x256x256_S1x256x256_S1x256x256_S10x256x256_d0

/-- The ten edges less their mean. -/
def kDev1 (s : FVec Ideal S10x128x256 .f32) : FVec Ideal S10x128x256 .f32 :=
  subf s (broadcastTo S10x128x256 (divf (shapeCast S1x128x1 (multiReduction .add [0] S128x1 (shapeCast S10x128x1
    (multiReduction .add [2] S10x128 s 0x00000000#32 reduces_S10x128x256_S10x128 (.inl rfl) rfl) shapeCasts_S10x128_S10x128x1)
    0x00000000#32 reduces_S10x128x1_S128x1 (.inl rfl) rfl) shapeCasts_S128x1_S1x128x1)
    (broadcast S1x128x1 (Scalar.ofBits .f32 0x45200000#32))) broadcasts_S1x128x1_S10x128x256)

/-- The sum of the ten edges of the second layer. -/
def kSum2 (s : FVec Ideal S10x256x256 .f32) : FVec Ideal S1x256x1 .f32 :=
  shapeCast S1x256x1 (multiReduction .add [0] S256x1 (shapeCast S10x256x1
    (multiReduction .add [2] S10x256 s 0x00000000#32 reduces_S10x256x256_S10x256 (.inl rfl) rfl) shapeCasts_S10x256_S10x256x1)
    0x00000000#32 reduces_S10x256x1_S256x1 (.inl rfl) rfl) shapeCasts_S256x1_S1x256x1

/-- The ten edges of the second layer less their mean. -/
def kDev2 (s : FVec Ideal S10x256x256 .f32) : FVec Ideal S10x256x256 .f32 :=
  subf s (broadcastTo S10x256x256 (divf (kSum2 s) k0_pay49) broadcasts_S1x256x1_S10x256x256)

/-- The second layer's normalisation. -/
def kNorm2 (d : FVec Ideal S10x256x256 .f32) : FVec Ideal S10x256x256 .f32 :=
  divf d (broadcastTo S10x256x256 (sqrt (addf (divf (kSum2 (mulf d d)) (broadcast S1x256x1 (Scalar.ofBits .f32 0x45200000#32)))
    (broadcast S1x256x1 (Scalar.ofBits .f32 0x3727C5AC#32)))) broadcasts_S1x256x1_S10x256x256)

/-- The second layer's activation and greatest. -/
def kMax2 (v : FVec Ideal S10x256x256 .f32) : FVec Ideal S256x256 .f32 :=
  multiReduction .maximumf [0] S256x256 (select (cmpf .oge v (broadcast S10x256x256 (Scalar.ofBits .f32 0x00000000#32))) v
    (mulf (broadcast S10x256x256 (Scalar.ofBits .f32 0x3E4CCCCD#32)) v)) 0xFF800000#32 reduces_S10x256x256_S256x256 (.inl rfl) rfl

/-- The pointwise convolution. -/
def kH3 (f g : FVec Ideal S128x256 .f32) (x2 : FVec Ideal S256x256 .f32) (w : FVec Ideal S128x512 .f32) : FVec Ideal S128x256 .f32 :=
  matmul dot_S128x512_S512x256_S128x256_1_0_0_1_n_n none w (concatenate S512x256 0 [⟨S128x256, f⟩, ⟨S128x256, g⟩, ⟨S256x256, x2⟩]
    concatenates_S128x256_S128x256_S256x256_S512x256_d0) (constant S128x256 .f32 0x00000000#32)

/-- The pointwise convolution less its mean. -/
def kDev3 (h : FVec Ideal S128x256 .f32) : FVec Ideal S128x256 .f32 :=
  subf h (broadcastTo S128x256 (divf (shapeCast S128x1 (multiReduction .add [1] S128 h 0x00000000#32 reduces_S128x256_S128 (.inl rfl) rfl)
    shapeCasts_S128_S128x1) (broadcast S128x1 (Scalar.ofBits .f32 0x43800000#32))) broadcasts_S128x1_S128x256)

/-- Its normalisation. -/
def kNorm3 (d : FVec Ideal S128x256 .f32) : FVec Ideal S128x256 .f32 :=
  divf d (broadcastTo S128x256 (sqrt (addf (divf (shapeCast S128x1 (multiReduction .add [1] S128 (mulf d d) 0x00000000#32
    reduces_S128x256_S128 (.inl rfl) rfl) shapeCasts_S128_S128x1) (broadcast S128x1 (Scalar.ofBits .f32 0x43800000#32)))
    (broadcast S128x1 (Scalar.ofBits .f32 0x3727C5AC#32)))) broadcasts_S128x1_S128x256)

/-- The first layer's features. -/
def kF1 (f : FVec Ideal S128x256 .f32) (oh : Fin 10 → FVec Ideal S256x256 .f32) (w : FVec Ideal S128x256 .f32) :
    FVec Ideal S128x256 .f32 := k0_pay40 (kDev1 (kStack1 fun k => k0_pay33 f (oh k) w))

/-- An edge of the second layer. -/
def kEdge2 (g : FVec Ideal S128x256 .f32) (oh : FVec Ideal S256x256 .f32) (w : FVec Ideal S256x256 .f32) : FVec Ideal S256x256 .f32 :=
  addf (matmul dot_S256x128_S128x256_S256x256_1_0_0_1_n_n none (extractStridedSlice S256x128 ![0, 0] w slices_S256x256_o0_0_S256x128) g
      (constant S256x256 .f32 0x00000000#32))
    (matmul dot_S256x128_S128x256_S256x256_1_0_0_1_n_n none (extractStridedSlice S256x128 ![0, 128] w slices_S256x256_o0_128_S256x128)
      (subf (matmul dot_S128x256_S256x256_S128x256_1_1_0_0_n_n (some .fp32) g oh (constant S128x256 .f32 0x00000000#32)) g)
      (constant S256x256 .f32 0x00000000#32))

/-- The second layer's edges. -/
def kS2 (g : FVec Ideal S128x256 .f32) (oh : Fin 10 → FVec Ideal S256x256 .f32) (w : FVec Ideal S256x256 .f32) :
    FVec Ideal S10x256x256 .f32 := kStack2 fun k => kEdge2 g (oh k) w

/-- The features after the three layers, before the last activation. -/
def kX3 (f : FVec Ideal S128x256 .f32) (oh : Fin 10 → FVec Ideal S256x256 .f32) (w1 : FVec Ideal S128x256 .f32)
    (w2 : FVec Ideal S256x256 .f32) (w3 : FVec Ideal S128x512 .f32) : FVec Ideal S128x256 .f32 :=
  kNorm3 (kDev3 (kH3 f (kF1 f oh w1) (kMax2 (kNorm2 (kDev2 (kS2 (kF1 f oh w1) oh w2)))) w3))

variable (x0 : Vec Ideal S2x256 .f32) (x1 : Vec Ideal S128x256 .f32) (x2 : Vec Ideal S128x256 .f32)
  (x3 : Vec Ideal S256x256 .f32) (x4 : Vec Ideal S128x512 .f32) (x5 : Vec Ideal S128x64 .f32) (x6 : Vec Ideal S128x64 .f32)
  (x7 : Vec Ideal S1x128 .f32) (x8 : Vec Ideal S128x128 .f32) (x9 : Vec Ideal S1x128 .f32) (x10 : Vec Ideal S128x128 .f32)
  (x11 : Vec Ideal S1x128 .f32) (x12 : Vec Ideal S128x128 .f32) (x13 : Vec Ideal S1x128 .f32)
  (x14 : Vec Ideal S128x128 .f32) (x15 : Vec Ideal S1x128 .f32)

/-- The printed first layer is this. -/
theorem link_f1 : k0_pay109 x0 x1 x2 x3 x4 x5 x6 x7 x8 x9 x10 x11 x12 x13 x14 x15
    = kF1 (k0_pay2 (View.ld x1 r0_1)) (kOhs (View.ld x0 r0_0)) (View.ld x2 r0_1) := rfl

/-- The printed second layer's edges are these. -/
theorem link_s2 : k0_pay116 x0 x1 x2 x3 x4 x5 x6 x7 x8 x9 x10 x11 x12 x13 x14 x15
    = kS2 (k0_pay109 x0 x1 x2 x3 x4 x5 x6 x7 x8 x9 x10 x11 x12 x13 x14 x15) (kOhs (View.ld x0 r0_0)) (View.ld x3 r0_2) := rfl

/-- The printed third layer is this. -/
theorem link_x3 : k0_pay119 x0 x1 x2 x3 x4 x5 x6 x7 x8 x9 x10 x11 x12 x13 x14 x15
    = kX3 (k0_pay2 (View.ld x1 r0_1)) (kOhs (View.ld x0 r0_0)) (View.ld x2 r0_1) (View.ld x3 r0_2) (View.ld x4 r0_3) := by
  unfold kX3
  rw [← link_f1 x0 x1 x2 x3 x4 x5 x6 x7 x8 x9 x10 x11 x12 x13 x14 x15, ← link_s2 x0 x1 x2 x3 x4 x5 x6 x7 x8 x9 x10 x11 x12 x13 x14 x15]
  rfl

end Cert.KernelIdeal.Value

end
-- ==== Proof.KernelX3.lean ====
/- What the kernel's first call computes up to the features after the three layers. -/
module

public import proofs.«01_k».proof.Proof.KernelPrep

@[expose] public section

set_option maxRecDepth 16384

noncomputable section

namespace Cert.KernelIdeal.Value

open Idealize.ShloMosaic Idealize.ShloMosaic.Tactic
open Cert.KernelIdeal Cert.KernelIdeal.Gen

/-- A sum over pairs, the second component outside. -/
theorem sum_pairs (h : Fin 256 × Fin 10 → EReal) : ∑ j, h j = ∑ k, ∑ n, h (n, k) := Fintype.sum_prod_type_right h

/-- The stack of edges reads the edge. -/
theorem kStack1_read (e : Fin 10 → FVec Ideal S128x256 .f32) (k : Fin 10) (o : Fin 128) (n : Fin 256) :
    @Eq EReal (kStack1 e (ix3 k o n)) (e k (ix2 o n)) := by
  fin_cases k <;> pointwise [kStack1]

/-- The stack of edges reads the edge. -/
theorem kStack2_read (e : Fin 10 → FVec Ideal S256x256 .f32) (k : Fin 10) (o : Fin 256) (n : Fin 256) :
    @Eq EReal (kStack2 e (ix3 k o n)) (e k (ix2 o n)) := by
  fin_cases k <;> pointwise [kStack2]

/-- A product with one-hot rows picks the neighbour. -/
theorem pick (g : Fin 256 → EReal) (oh : Fin 256 → EReal) (j : Fin 256) (h : ∀ m, oh m = if m = j then 1 else 0) :
    ∑ m, g m * oh m = g j := by
  simp [h]

/-- An edge of the first layer. -/
theorem edge1_read (A : Spec.Inputs) {O : Nat} (W : Fin O → Fin 256 → EReal) (g : Fin 128 → Fin 256 → EReal) (oh : Fin 256 → Fin 256 → EReal)
    (k : Fin 10) (o : Fin O) (n : Fin 256) (h : ∀ n m, oh n m = if m = A.nb n k then 1 else 0) :
    ∑ x : Fin 128, W o ⟨x.val, by omega⟩ * g x n
      + ∑ x : Fin 128, W o ⟨128 + x.val, by omega⟩ * (∑ m, g x m * oh n m - g x n) = A.conv W g o (n, k) := by
  unfold Spec.Inputs.conv
  simp only [pick _ _ _ (h n)]
  congr 1 <;> exact Finset.sum_congr rfl fun x _ => mul_comm _ _

variable (A : Spec.Inputs)

/-- The one-hot rows pick the neighbours. -/
def Picks (oh : Fin 10 → S256x256.Idx → EReal) : Prop :=
  ∀ k n m, oh k (ix2 n m) = if m = A.nb n k then 1 else 0

/-- The first layer. -/
theorem kF1_read (f : S128x256.Idx → EReal) (oh : Fin 10 → S256x256.Idx → EReal) (w : S128x256.Idx → EReal)
    (hf : ∀ i n, f (ix2 i n) = A.f i n) (ho : Picks A oh) (hw : ∀ o i, w (ix2 o i) = A.W1 o i) (o : Fin 128) (n : Fin 256) :
    @Eq EReal (kF1 f oh w (ix2 o n)) (A.x1 o n) := by
  have he : ∀ k o n, @Eq EReal (k0_pay33 (F := Ideal) f (oh k) w (ix2 o n)) (A.conv A.W1 A.f o (n, k)) := fun k o n => by
    rw [← edge1_read A A.W1 A.f (fun n m => oh k (ix2 n m)) k o n (ho k)]
    pointwise [k0_pay33, k0_pay32]
    simp only [hf, hw]
  have hd : ∀ k o n, @Eq EReal (kDev1 (kStack1 fun k => k0_pay33 (F := Ideal) f (oh k) w) (ix3 k o n))
      (A.conv A.W1 A.f o (n, k) - Ideal.div (∑ j, A.conv A.W1 A.f o j) (Ideal.ofBits .f32 0x45200000#32)) := fun k o n => by
    pointwise [kDev1]
    simp only [kStack1_read, he, sum_pairs]
  unfold kF1
  pointwise [k0_pay40]
  simp only [hd]
  unfold Spec.Inputs.x1 Spec.Inputs.edge Spec.top Spec.lk Spec.nrm
  simp only [sum_pairs]

/-- The second layer, normalised, activated, the greatest over the neighbours. -/
theorem kX2_read (g : S128x256.Idx → EReal) (oh : Fin 10 → S256x256.Idx → EReal) (w : S256x256.Idx → EReal)
    (hg : ∀ i n, g (ix2 i n) = A.x1 i n) (ho : Picks A oh) (hw : ∀ o i, w (ix2 o i) = A.W2 o i) (o : Fin 256) (n : Fin 256) :
    @Eq EReal (kMax2 (kNorm2 (kDev2 (kS2 g oh w))) (ix2 o n)) (A.x2 o n) := by
  have he : ∀ k o n, @Eq EReal (kEdge2 g (oh k) w (ix2 o n)) (A.conv A.W2 A.x1 o (n, k)) := fun k o n => by
    rw [← edge1_read A A.W2 A.x1 (fun n m => oh k (ix2 n m)) k o n (ho k)]
    pointwise [kEdge2]
    simp only [hg, hw]
  have hd : ∀ k o n, @Eq EReal (kDev2 (kS2 g oh w) (ix3 k o n))
      (A.conv A.W2 A.x1 o (n, k) - Ideal.div (∑ j, A.conv A.W2 A.x1 o j) (Ideal.ofBits .f32 0x45200000#32)) := fun k o n => by
    pointwise [kDev2, kSum2, k0_pay49, kS2]
    simp only [kStack2_read, he, sum_pairs]
  generalize kDev2 (kS2 g oh w) = d at hd
  have hn : ∀ k o n, @Eq EReal (kNorm2 d (ix3 k o n))
      (Spec.nrm (Ideal.ofBits .f32 0x45200000#32) (A.conv A.W2 A.x1 o) (n, k)) := fun k o n => by
    pointwise [kNorm2, kSum2]
    simp only [hd]
    unfold Spec.nrm
    simp only [sum_pairs]
  generalize kNorm2 d = e at hn
  pointwise [kMax2]
  simp only [hn]
  rfl

/-- The pointwise convolution. -/
theorem kH3_read (f g : S128x256.Idx → EReal) (x2 : S256x256.Idx → EReal) (w : S128x512.Idx → EReal)
    (hf : ∀ i n, f (ix2 i n) = A.f i n) (hg : ∀ i n, g (ix2 i n) = A.x1 i n) (hx : ∀ i n, x2 (ix2 i n) = A.x2 i n)
    (hw : ∀ o i, w (ix2 o i) = A.W3 o i) (o : Fin 128) (n : Fin 256) : @Eq EReal (kH3 f g x2 w (ix2 o n)) (A.h3 o n) := by
  pointwise [kH3]
  simp only [hf, hg, hx, hw]
  unfold Spec.Inputs.h3 Spec.Inputs.cat
  exact Finset.sum_congr rfl fun x _ => mul_comm _ _

/-- The features after the three layers, before the last activation. -/
theorem kX3_read (f : S128x256.Idx → EReal) (oh : Fin 10 → S256x256.Idx → EReal) (w1 : S128x256.Idx → EReal)
    (w2 : S256x256.Idx → EReal) (w3 : S128x512.Idx → EReal)
    (hf : ∀ i n, f (ix2 i n) = A.f i n) (ho : Picks A oh) (hw1 : ∀ o i, w1 (ix2 o i) = A.W1 o i)
    (hw2 : ∀ o i, w2 (ix2 o i) = A.W2 o i) (hw3 : ∀ o i, w3 (ix2 o i) = A.W3 o i) (o : Fin 128) (n : Fin 256) :
    @Eq EReal (kX3 f oh w1 w2 w3 (ix2 o n)) (Spec.nrm (Ideal.ofBits .f32 0x43800000#32) (A.h3 o) n) := by
  have h1 := kF1_read A f oh w1 hf ho hw1
  have hh := kH3_read A f (kF1 f oh w1) _ w3 hf h1 (kX2_read A (kF1 f oh w1) oh w2 h1 ho hw2) hw3
  unfold kX3
  generalize kH3 f (kF1 f oh w1) _ w3 = h at hh
  have hd : ∀ o n, @Eq EReal (kDev3 h (ix2 o n))
      (A.h3 o n - Ideal.div (∑ j, A.h3 o j) (Ideal.ofBits .f32 0x43800000#32)) := fun o n => by
    pointwise [kDev3]
    simp only [hh]
  generalize kDev3 h = d at hd
  pointwise [kNorm3]
  simp only [hd]
  rfl

end Cert.KernelIdeal.Value

end
-- ==== Proof.KernelRest.lean ====
/- What the kernel's first call stores: the features, the three linear layers, the query carried through the position
   term's weights, and the angles. -/
module

public import proofs.«01_k».proof.Proof.KernelX3
public import proofs.«01_k».proof.Proof.Reals

@[expose] public section

set_option maxRecDepth 16384

noncomputable section

namespace Cert.KernelIdeal.Value

open Idealize.ShloMosaic Idealize.ShloMosaic.Tactic
open Cert.KernelIdeal Cert.KernelIdeal.Gen

variable (A : Spec.Inputs)

/-- The one-hot rows of the kernel's coordinates pick the neighbours. -/
theorem picks (c : S2x256.Idx → EReal) (hc : ∀ i n, c (ix2 i n) = A.c i n) (hr : ∀ i n, Spec.IsReal (A.c i n)) :
    Picks A (kOhs c) := by
  intro k n m
  refine kOhs_read c A.dist ?_ ?_ k n m
  · intro n m
    rw [kDist_read]
    simp only [hc]
    rfl
  · intro n m
    obtain ⟨r, hr0⟩ := Consts.cclip
    refine Spec.IsReal.lt_top ?_
    unfold Spec.Inputs.dist
    rw [hr0, Consts.cm2]
    exact (Spec.IsReal.coe _).max ((((Spec.IsReal.coe _).mul (Spec.IsReal.sum _ _ fun i => (hr i n).mul (hr i m))).add
      (Spec.IsReal.sum _ _ fun i => (hr i n).mul (hr i n))).add (Spec.IsReal.sum _ _ fun i => (hr i m).mul (hr i m)))

/-- The mask of the last activation. -/
def kPos (h : S128x256.Idx → EReal) : IVec S128x256 1 :=
  cmpf (F := Ideal) (φ := .f32) .oge h (broadcast S128x256 (Scalar.ofBits (F := Ideal) .f32 0x00000000#32))

/-- The features. -/
def kFeat (h : S128x256.Idx → EReal) : S256x128.Idx → EReal := k0_pay53 (F := Ideal) h (kPos h) (k0_pay52 (F := Ideal))

/-- The features, read. -/
theorem kFeat_read (h : S128x256.Idx → EReal) (hh : ∀ o n, h (ix2 o n) = Spec.nrm (Ideal.ofBits .f32 0x43800000#32) (A.h3 o) n)
    (n : Fin 256) (o : Fin 128) : @Eq EReal (kFeat h (ix2 n o)) (A.x3 n o) := by
  unfold kFeat
  pointwise [k0_pay53, k0_pay52, kPos]
  simp only [hh]
  rfl

/-- A linear layer of the features. -/
def kLin (h : S128x256.Idx → EReal) (w : S128x128.Idx → EReal) (b : S1x128.Idx → EReal) : S256x128.Idx → EReal :=
  k0_pay54 (F := Ideal) h (kPos h) (k0_pay52 (F := Ideal)) w b

/-- A linear layer, read. -/
theorem kLin_read (h : S128x256.Idx → EReal) (w : S128x128.Idx → EReal) (b : S1x128.Idx → EReal)
    (W : Fin 128 → Fin 128 → EReal) (B : Fin 128 → EReal)
    (hh : ∀ o n, h (ix2 o n) = Spec.nrm (Ideal.ofBits .f32 0x43800000#32) (A.h3 o) n)
    (hw : ∀ j x, w (ix2 j x) = W j x) (hb : ∀ j, b (ix2 0 j) = B j)
    (n : Fin 256) (j : Fin 128) : @Eq EReal (kLin h w b (ix2 n j)) (A.lin W B n j) := by
  have hf := kFeat_read A h hh
  unfold kLin k0_pay54
  unfold kFeat at hf
  generalize k0_pay53 (F := Ideal) h (kPos h) (k0_pay52 (F := Ideal)) = g at hf
  pointwise []
  simp only [hf, hw, hb]
  rfl

/-- The angle plane of a neighbour. -/
def kAng (c : S2x256.Idx → EReal) (oh : S256x256.Idx → EReal) : S1x256x256.Idx → EReal :=
  k0_pay61 (F := Ideal) (k0_pay3 c) (k0_pay4 c) (k0_pay5 c) (k0_pay6 c) (k0_pay7 c) oh (k0_pay57 (k0_pay6 c) (k0_pay7 c))

/-- The angle plane, read. -/
theorem kAng_read (c : S2x256.Idx → EReal) (oh : S256x256.Idx → EReal) (k : Fin 10)
    (hc : ∀ i n, c (ix2 i n) = A.c i n) (ho : ∀ n m, oh (ix2 n m) = if m = A.nb n k then 1 else 0)
    (n m : Fin 256) : @Eq EReal (kAng c oh (ix3 0 n m)) (A.ang n m k) := by
  have hp : ∀ (g : Fin 256 → EReal), ∑ x, oh (ix2 n x) * g x = g (A.nb n k) := fun g => by simp [ho]
  unfold kAng
  pointwise [k0_pay61, k0_pay3, k0_pay4, k0_pay5, k0_pay6, k0_pay7, k0_pay57, k0_pay1]
  simp only [hc, hp]
  unfold Spec.Inputs.ang Spec.Inputs.toNb Spec.Inputs.toPt
  simp only [Fin.sum_univ_two]

theorem ch_0 (x : Fin 32) : Spec.ch 0 x = ⟨x.val, by omega⟩ := Fin.ext (Nat.zero_add _)
theorem ch_1 (x : Fin 32) : Spec.ch 1 x = ⟨32 + x.val, by omega⟩ := Fin.ext rfl
theorem ch_2 (x : Fin 32) : Spec.ch 2 x = ⟨64 + x.val, by omega⟩ := Fin.ext rfl
theorem ch_3 (x : Fin 32) : Spec.ch 3 x = ⟨96 + x.val, by omega⟩ := Fin.ext rfl

/-- The query carried through the position term's weights, for one head and one frequency. -/
theorem kU_read (q : S256x128.Idx → EReal) (wp : S128x128.Idx → EReal) (p : S128x64.Idx → EReal) (h : Fin 4) (n : Fin 256) (j : Fin 64) :
    @Eq EReal (k0_pay78 (F := Ideal) q wp p (ix2 n ⟨h.val * 64 + j.val, by omega⟩))
      (∑ x : Fin 32, q (ix2 n (Spec.ch h x)) * ∑ y, wp (ix2 (Spec.ch h x) y) * p (ix2 y j)) := by
  fin_cases h
  · pointwise [k0_pay78]
    exact Finset.sum_congr rfl fun x _ => by rw [← ch_0]
  · pointwise [k0_pay78]
    exact Finset.sum_congr rfl fun x _ => by rw [← ch_1]
  · pointwise [k0_pay78]
    rw [dif_neg (show ¬ 128 + j.val < 64 by omega), dif_neg (show ¬ 128 + j.val - 64 < 64 by omega),
      dif_pos (show 128 + j.val - 64 - 64 < 64 by omega)]
    simp only [show 128 + j.val - 64 - 64 = j.val by omega]
    exact Finset.sum_congr rfl fun x _ => by rw [← ch_2]
  · pointwise [k0_pay78]
    rw [dif_neg (show ¬ 192 + j.val < 64 by omega), dif_neg (show ¬ 192 + j.val - 64 < 64 by omega),
      dif_neg (show ¬ 192 + j.val - 64 - 64 < 64 by omega)]
    simp only [show 192 + j.val - 64 - 64 - 64 = j.val by omega]
    exact Finset.sum_congr rfl fun x _ => by rw [← ch_3]

/-- The position term's bias. -/
theorem kB_read (wp : S128x128.Idx → EReal) (b c : S1x128.Idx → EReal) (j : Fin 128) :
    @Eq EReal (k0_pay82 (F := Ideal) wp b c (ix2 0 j)) (∑ y, b (ix2 0 y) * wp (ix2 j y) + c (ix2 0 j)) := by
  pointwise [k0_pay82]

end Cert.KernelIdeal.Value

end
-- ==== Proof.KernelOuts.lean ====
/- The arrays the kernel's first call leaves, read at an index. -/
module

public import proofs.«01_k».proof.Proof.KernelRest

@[expose] public section

set_option maxRecDepth 16384

noncomputable section

namespace Cert.KernelIdeal.Value

open Idealize.ShloMosaic Idealize.ShloMosaic.Tactic
open Cert.KernelIdeal Cert.KernelIdeal.Gen

/-- The offsets of a whole block are zero. -/
theorem hz : (![0, 0] : Fin 2 → Nat) = fun _ => 0 := funext fun a => by fin_cases a <;> rfl

/-- The features before the last activation, from the blocks. -/
def kPre (x0 : S2x256.Idx → EReal) (x1 x2 : S128x256.Idx → EReal) (x3 : S256x256.Idx → EReal) (x4 : S128x512.Idx → EReal) :
    S128x256.Idx → EReal := kX3 (k0_pay2 (F := Ideal) x1) (kOhs x0) x2 x3 x4

section Links

variable (x0 : Vec Ideal S2x256 .f32) (x1 : Vec Ideal S128x256 .f32) (x2 : Vec Ideal S128x256 .f32)
  (x3 : Vec Ideal S256x256 .f32) (x4 : Vec Ideal S128x512 .f32) (x5 : Vec Ideal S128x64 .f32) (x6 : Vec Ideal S128x64 .f32)
  (x7 : Vec Ideal S1x128 .f32) (x8 : Vec Ideal S128x128 .f32) (x9 : Vec Ideal S1x128 .f32) (x10 : Vec Ideal S128x128 .f32)
  (x11 : Vec Ideal S1x128 .f32) (x12 : Vec Ideal S128x128 .f32) (x13 : Vec Ideal S1x128 .f32)
  (x14 : Vec Ideal S128x128 .f32) (x15 : Vec Ideal S1x128 .f32)

/-- The printed mask of the last activation is this. -/
theorem link_pos : k0_pay120 x0 x1 x2 x3 x4 x5 x6 x7 x8 x9 x10 x11 x12 x13 x14 x15 = kPos (k0_pay119 x0 x1 x2 x3 x4 x5 x6 x7 x8 x9 x10 x11 x12 x13 x14 x15) := rfl

/-- The printed features before the last activation are these. -/
theorem link_pre : k0_pay119 x0 x1 x2 x3 x4 x5 x6 x7 x8 x9 x10 x11 x12 x13 x14 x15 = kPre x0 x1 x2 x3 x4 := by
  rw [link_x3]
  unfold kPre
  rw [View.ld_unit_zero hz, View.ld_unit_zero hz, View.ld_unit_zero hz, View.ld_unit_zero hz, View.ld_unit_zero hz]

/-- The printed query is this. -/
theorem link_q : k0_pay122 x0 x1 x2 x3 x4 x5 x6 x7 x8 x9 x10 x11 x12 x13 x14 x15 = kLin (kPre x0 x1 x2 x3 x4) x8 x9 := by
  unfold kLin
  rw [← link_pre x0 x1 x2 x3 x4 x5 x6 x7 x8 x9 x10 x11 x12 x13 x14 x15, ← link_pos x0 x1 x2 x3 x4 x5 x6 x7 x8 x9 x10 x11 x12 x13 x14 x15]
  unfold k0_pay122
  rw [View.ld_unit_zero hz, View.ld_unit_zero hz]
  rfl

/-- The stored features. -/
theorem out17 : out0_17 x0 x1 x2 x3 x4 x5 x6 x7 x8 x9 x10 x11 x12 x13 x14 x15 = kFeat (kPre x0 x1 x2 x3 x4) := by
  unfold out0_17 kFeat
  rw [View.canon_unit_zero hz, ← link_pre x0 x1 x2 x3 x4 x5 x6 x7 x8 x9 x10 x11 x12 x13 x14 x15, ← link_pos x0 x1 x2 x3 x4 x5 x6 x7 x8 x9 x10 x11 x12 x13 x14 x15]
  rfl

/-- The stored query. -/
theorem out18 : out0_18 x0 x1 x2 x3 x4 x5 x6 x7 x8 x9 x10 x11 x12 x13 x14 x15 = kLin (kPre x0 x1 x2 x3 x4) x8 x9 := by
  unfold out0_18
  rw [View.canon_unit_zero hz, link_q]

/-- The stored key. -/
theorem out19 : out0_19 x0 x1 x2 x3 x4 x5 x6 x7 x8 x9 x10 x11 x12 x13 x14 x15 = kLin (kPre x0 x1 x2 x3 x4) x10 x11 := by
  unfold out0_19 kLin
  rw [View.canon_unit_zero hz, View.ld_unit_zero hz, View.ld_unit_zero hz, ← link_pre x0 x1 x2 x3 x4 x5 x6 x7 x8 x9 x10 x11 x12 x13 x14 x15, ← link_pos x0 x1 x2 x3 x4 x5 x6 x7 x8 x9 x10 x11 x12 x13 x14 x15]
  rfl

/-- The stored value. -/
theorem out20 : out0_20 x0 x1 x2 x3 x4 x5 x6 x7 x8 x9 x10 x11 x12 x13 x14 x15 = kLin (kPre x0 x1 x2 x3 x4) x12 x13 := by
  unfold out0_20 kLin
  rw [View.canon_unit_zero hz, View.ld_unit_zero hz, View.ld_unit_zero hz, ← link_pre x0 x1 x2 x3 x4 x5 x6 x7 x8 x9 x10 x11 x12 x13 x14 x15, ← link_pos x0 x1 x2 x3 x4 x5 x6 x7 x8 x9 x10 x11 x12 x13 x14 x15]
  rfl

/-- The stored query through the sines' weights. -/
theorem out21 : out0_21 x0 x1 x2 x3 x4 x5 x6 x7 x8 x9 x10 x11 x12 x13 x14 x15 = k0_pay78 (F := Ideal) (kLin (kPre x0 x1 x2 x3 x4) x8 x9) x14 x5 := by
  unfold out0_21
  rw [View.canon_unit_zero hz, View.ld_unit_zero hz, View.ld_unit_zero hz, link_q]

/-- The stored query through the cosines' weights. -/
theorem out22 : out0_22 x0 x1 x2 x3 x4 x5 x6 x7 x8 x9 x10 x11 x12 x13 x14 x15 = k0_pay78 (F := Ideal) (kLin (kPre x0 x1 x2 x3 x4) x8 x9) x14 x6 := by
  unfold out0_22
  rw [View.canon_unit_zero hz, View.ld_unit_zero hz, View.ld_unit_zero hz, link_q]
  rfl

/-- The stored bias of the position term. -/
theorem out23 : out0_23 x0 x1 x2 x3 x4 x5 x6 x7 x8 x9 x10 x11 x12 x13 x14 x15 = k0_pay82 (F := Ideal) x14 x7 x15 := by
  unfold out0_23
  rw [View.canon_unit_zero hz, View.ld_unit_zero hz, View.ld_unit_zero hz, View.ld_unit_zero hz]

/-- The stored angles, plane by plane, from the blocks as loaded. -/
theorem out16_ld : out0_16 x0 x1 x2 x3 x4 x5 x6 x7 x8 x9 x10 x11 x12 x13 x14 x15 = View.canon [⟨r0_15, kAng (View.ld x0 r0_0) (kOhs (View.ld x0 r0_0) 9)⟩,
    ⟨r0_14, kAng (View.ld x0 r0_0) (kOhs (View.ld x0 r0_0) 8)⟩,
    ⟨r0_13, kAng (View.ld x0 r0_0) (kOhs (View.ld x0 r0_0) 7)⟩,
    ⟨r0_12, kAng (View.ld x0 r0_0) (kOhs (View.ld x0 r0_0) 6)⟩,
    ⟨r0_11, kAng (View.ld x0 r0_0) (kOhs (View.ld x0 r0_0) 5)⟩,
    ⟨r0_10, kAng (View.ld x0 r0_0) (kOhs (View.ld x0 r0_0) 4)⟩,
    ⟨r0_9, kAng (View.ld x0 r0_0) (kOhs (View.ld x0 r0_0) 3)⟩,
    ⟨r0_8, kAng (View.ld x0 r0_0) (kOhs (View.ld x0 r0_0) 2)⟩,
    ⟨r0_7, kAng (View.ld x0 r0_0) (kOhs (View.ld x0 r0_0) 1)⟩,
    ⟨r0_6, kAng (View.ld x0 r0_0) (kOhs (View.ld x0 r0_0) 0)⟩] := by
  rw [← round0 x0 x1 x2 x3 x4 x5 x6 x7 x8 x9 x10 x11 x12 x13 x14 x15, ← round1 x0 x1 x2 x3 x4 x5 x6 x7 x8 x9 x10 x11 x12 x13 x14 x15, ← round2 x0 x1 x2 x3 x4 x5 x6 x7 x8 x9 x10 x11 x12 x13 x14 x15, ← round3 x0 x1 x2 x3 x4 x5 x6 x7 x8 x9 x10 x11 x12 x13 x14 x15, ← round4 x0 x1 x2 x3 x4 x5 x6 x7 x8 x9 x10 x11 x12 x13 x14 x15, ← round5 x0 x1 x2 x3 x4 x5 x6 x7 x8 x9 x10 x11 x12 x13 x14 x15, ← round6 x0 x1 x2 x3 x4 x5 x6 x7 x8 x9 x10 x11 x12 x13 x14 x15, ← round7 x0 x1 x2 x3 x4 x5 x6 x7 x8 x9 x10 x11 x12 x13 x14 x15,
    ← round8 x0 x1 x2 x3 x4 x5 x6 x7 x8 x9 x10 x11 x12 x13 x14 x15, ← round9 x0 x1 x2 x3 x4 x5 x6 x7 x8 x9 x10 x11 x12 x13 x14 x15]
  rfl

/-- The stored angles, plane by plane. -/
theorem out16 : out0_16 x0 x1 x2 x3 x4 x5 x6 x7 x8 x9 x10 x11 x12 x13 x14 x15 = View.canon [⟨r0_15, kAng x0 (kOhs x0 9)⟩,
    ⟨r0_14, kAng x0 (kOhs x0 8)⟩,
    ⟨r0_13, kAng x0 (kOhs x0 7)⟩,
    ⟨r0_12, kAng x0 (kOhs x0 6)⟩,
    ⟨r0_11, kAng x0 (kOhs x0 5)⟩,
    ⟨r0_10, kAng x0 (kOhs x0 4)⟩,
    ⟨r0_9, kAng x0 (kOhs x0 3)⟩,
    ⟨r0_8, kAng x0 (kOhs x0 2)⟩,
    ⟨r0_7, kAng x0 (kOhs x0 1)⟩,
    ⟨r0_6, kAng x0 (kOhs x0 0)⟩] := by
  rw [out16_ld, View.ld_unit_zero hz]

end Links

/-- The stack of angles. -/
def angs (A : Spec.Inputs) : S10x256x256.Idx → EReal := fun y => A.ang (y 1) (y 2) (y 0)

/-- One plane of the stack of angles. -/
theorem plane (A : Spec.Inputs) (k : Fin 10) (P : S1x256x256.Idx → EReal)
    (hP : ∀ n m, @Eq EReal (P (ix3 0 n m)) (A.ang n m k)) (inb : ∀ a, ![k.val, 0, 0] a + S1x256x256.size a ≤ S10x256x256.size a)
    (x : S1x256x256.Idx) :
    P x = angs A ((Rect.unit (s := S10x256x256) ![k.val, 0, 0] S1x256x256.size inb).emb x) := by
  have hx : x = ix3 0 (x 1) (x 2) := by
    funext a
    fin_cases a
    · exact Fin.ext (by have h0 : (x 0).val < 1 := (x 0).isLt; show (x 0).val = 0; omega)
    · rfl
    · rfl
  refine (congrArg P hx).trans ((hP (x 1) (x 2)).trans ?_)
  unfold angs
  congr 1
  · exact Fin.ext (by show (x 1).val = 0 + 1 * (x 1).val; omega)
  · exact Fin.ext (by show (x 2).val = 0 + 1 * (x 2).val; omega)
  · exact Fin.ext (by show k.val = k.val + 1 * (x 0).val; have h0 : (x 0).val < 1 := (x 0).isLt; omega)

/-- The stored angles, read. -/
theorem out16_read (A : Spec.Inputs) (c : S2x256.Idx → EReal) (hc : ∀ i n, c (ix2 i n) = A.c i n) (ho : Picks A (kOhs c))
    (k : Fin 10) (n m : Fin 256) :
    @Eq EReal (View.canon (Val := Elt Ideal) (e := .f32) [⟨r0_15, kAng c (kOhs c 9)⟩,
    ⟨r0_14, kAng c (kOhs c 8)⟩,
    ⟨r0_13, kAng c (kOhs c 7)⟩,
    ⟨r0_12, kAng c (kOhs c 6)⟩,
    ⟨r0_11, kAng c (kOhs c 5)⟩,
    ⟨r0_10, kAng c (kOhs c 4)⟩,
    ⟨r0_9, kAng c (kOhs c 3)⟩,
    ⟨r0_8, kAng c (kOhs c 2)⟩,
    ⟨r0_7, kAng c (kOhs c 1)⟩,
    ⟨r0_6, kAng c (kOhs c 0)⟩] (ix3 k n m)) (A.ang n m k) := by
  have hp : ∀ k n m, @Eq EReal (kAng c (kOhs c k) (ix3 0 n m)) (A.ang n m k) := fun k => kAng_read A c _ k hc (ho k)
  refine View.canon_apply_of_pieces (Val := Elt Ideal) (e := .f32) (angs A) _ ?_ (ix3 k n m) (cover0_16 _ _ _ _ _ _ _ _ _ _ _)
  intro p hp'
  simp only [List.mem_cons, List.not_mem_nil, or_false] at hp'
  rcases hp' with rfl | rfl | rfl | rfl | rfl | rfl | rfl | rfl | rfl | rfl
  · exact plane A 9 _ (hp 9) inb_S10x256x256_S1x256x256_9_0_0
  · exact plane A 8 _ (hp 8) inb_S10x256x256_S1x256x256_8_0_0
  · exact plane A 7 _ (hp 7) inb_S10x256x256_S1x256x256_7_0_0
  · exact plane A 6 _ (hp 6) inb_S10x256x256_S1x256x256_6_0_0
  · exact plane A 5 _ (hp 5) inb_S10x256x256_S1x256x256_5_0_0
  · exact plane A 4 _ (hp 4) inb_S10x256x256_S1x256x256_4_0_0
  · exact plane A 3 _ (hp 3) inb_S10x256x256_S1x256x256_3_0_0
  · exact plane A 2 _ (hp 2) inb_S10x256x256_S1x256x256_2_0_0
  · exact plane A 1 _ (hp 1) inb_S10x256x256_S1x256x256_1_0_0
  · exact plane A 0 _ (hp 0) inb_S10x256x256_S1x256x256_0_0_0

end Cert.KernelIdeal.Value

end
-- ==== Proof.Position.lean ====
/- The position term: carrying the query through the position term's weights first, and summing the sines and cosines over
   the neighbours before the weights, gives the same score. -/
module

public import proofs.«01_k».proof.Proof.Reals

@[expose] public section

noncomputable section

namespace Cert.Spec

open Idealize.ShloMosaic

/-- A sum over channels is a sum over the even ones and one over the odd ones. -/
theorem sum_halves {M : Type} [AddCommMonoid M] (f : Fin 128 → M) :
    ∑ x, f x = ∑ j : Fin 64, f ⟨2 * j.val, by omega⟩ + ∑ j : Fin 64, f ⟨2 * j.val + 1, by omega⟩ := by
  rw [← Finset.sum_add_distrib, ← Equiv.sum_comp (finProdFinEquiv (m := 64) (n := 2)) f, Fintype.sum_prod_type]
  refine Finset.sum_congr rfl fun j _ => ?_
  rw [Fin.sum_univ_two]
  congr 2 <;> exact Fin.ext (by simp [finProdFinEquiv]; try omega)

/-- The order of the weights' sums. -/
theorem swap {J X Y : Type} [Fintype J] [Fintype X] [Fintype Y] (S : J → ℝ) (q : X → ℝ) (w : X → Y → ℝ) (p : Y → J → ℝ) :
    ∑ j, S j * ∑ x, q x * ∑ y, w x y * p y j = ∑ x, q x * ∑ y, (∑ j, S j * p y j) * w x y := by
  simp only [Finset.mul_sum, Finset.sum_mul]
  rw [Finset.sum_comm]
  refine Finset.sum_congr rfl fun x _ => ?_
  rw [Finset.sum_comm]
  exact Finset.sum_congr rfl fun y _ => Finset.sum_congr rfl fun j _ => by ring

/-- The law over the reals. -/
theorem position_real (q : Fin 32 → ℝ) (w : Fin 32 → Fin 128 → ℝ) (p : Fin 128 → Fin 128 → ℝ)
    (s c : Fin 10 → Fin 64 → ℝ) (E : Fin 10 → Fin 128 → ℝ)
    (hs : ∀ k (j : Fin 64), E k ⟨2 * j.val, by omega⟩ = s k j) (hc : ∀ k (j : Fin 64), E k ⟨2 * j.val + 1, by omega⟩ = c k j) :
    (∑ j, (∑ k, s k j) * (∑ x, q x * ∑ y, w x y * p y ⟨2 * j.val, by omega⟩)
      + ∑ j, (∑ k, c k j) * (∑ x, q x * ∑ y, w x y * p y ⟨2 * j.val + 1, by omega⟩)) * (1 / 10)
    = ∑ x, q x * ∑ y, (∑ k, ∑ z, E k z * p y z) * (1 / 10) * w x y := by
  rw [swap (fun j => ∑ k, s k j) q w fun y j => p y ⟨2 * j.val, by omega⟩,
    swap (fun j => ∑ k, c k j) q w fun y j => p y ⟨2 * j.val + 1, by omega⟩,
    ← Finset.sum_add_distrib, Finset.sum_mul]
  refine Finset.sum_congr rfl fun x _ => ?_
  have h : ∀ y, ∑ k, ∑ z, E k z * p y z
      = ∑ j : Fin 64, (∑ k, s k j) * p y ⟨2 * j.val, by omega⟩ + ∑ j : Fin 64, (∑ k, c k j) * p y ⟨2 * j.val + 1, by omega⟩ := fun y => by
    simp only [sum_halves, hs, hc, Finset.sum_mul]
    rw [Finset.sum_add_distrib]
    congr 1 <;> exact Finset.sum_comm
  have hx : ∑ y, (∑ k, ∑ z, E k z * p y z) * (1 / 10) * w x y
      = (∑ y, (∑ j : Fin 64, (∑ k, s k j) * p y ⟨2 * j.val, by omega⟩) * w x y
        + ∑ y, (∑ j : Fin 64, (∑ k, c k j) * p y ⟨2 * j.val + 1, by omega⟩) * w x y) * (1 / 10) := by
    rw [← Finset.sum_add_distrib, Finset.sum_mul]
    exact Finset.sum_congr rfl fun y _ => by rw [h]; ring
  rw [hx]
  ring

/-- The arguments the law needs to be real. -/
structure Finite (A : Inputs) : Prop where
  /-- the coordinates -/
  c : ∀ i n, IsReal (A.c i n)
  /-- the position term's first weight -/
  p1w : ∀ i n, IsReal (A.p1w i n)
  /-- the query weight -/
  wq : ∀ i n, IsReal (A.wq i n)
  /-- the query bias -/
  bq : ∀ i, IsReal (A.bq i)
  /-- the position term's second weight -/
  wp : ∀ i n, IsReal (A.wp i n)

namespace Inputs

variable (A : Inputs)

/-- The query through the even weights of the position term. -/
def us (h : Fin 4) (n : Fin 256) (j : Fin 64) : EReal :=
  ∑ x, A.lin A.wq A.bq n (ch h x) * ∑ y, A.wp (ch h x) y * A.p1w y ⟨2 * j.val, by omega⟩

/-- The query through the odd weights of the position term. -/
def uc (h : Fin 4) (n : Fin 256) (j : Fin 64) : EReal :=
  ∑ x, A.lin A.wq A.bq n (ch h x) * ∑ y, A.wp (ch h x) y * A.p1w y ⟨2 * j.val + 1, by omega⟩

/-- The position term's bias. -/
def bc (x : Fin 128) : EReal := ∑ y, A.p1b y * A.wp x y + A.bp x

/-- The score as the kernel takes it. -/
def kscore (h : Fin 4) (n m : Fin 256) : EReal :=
  (∑ x, A.lin A.wq A.bq n (ch h x) * A.lin A.wk A.bk m (ch h x)
      + Ideal.div (∑ j, (∑ k, Ideal.sin (A.ang n m k * fr j)) * A.us h n j + ∑ j, (∑ k, Ideal.cos (A.ang n m k * fr j)) * A.uc h n j)
        (Ideal.ofBits .f32 0x41200000#32)
      + ∑ x, A.lin A.wq A.bq n (ch h x) * A.bc (ch h x)) * (((Real.sqrt 32)⁻¹ : ℝ) : EReal)

end Inputs

variable {A : Inputs}

/-- The features of a point are real, whatever the arguments are: a normalisation is. -/
theorem x3_real (n : Fin 256) (o : Fin 128) : IsReal (A.x3 n o) := by
  unfold Inputs.x3
  rw [Consts.c256]
  exact IsReal.lk (IsReal.nrm _ (by norm_num) _ _)

/-- The query is real. -/
theorem Finite.q (H : Finite A) (n : Fin 256) (j : Fin 128) : IsReal (A.lin A.wq A.bq n j) :=
  (IsReal.sum _ _ fun x => (x3_real _ _).mul (H.wq _ _)).add (H.bq _)

/-- The root of a sum of two squares is real. -/
theorem IsReal.norm (g : Fin 2 → EReal) (hg : ∀ i, IsReal (g i)) : IsReal (Ideal.sqrt (∑ i, g i * g i)) := by
  choose r hr using hg
  have h : ∑ i, g i * g i = ((∑ i, r i * r i : ℝ) : EReal) := by
    rw [coe_sum]
    exact Finset.sum_congr rfl fun i _ => by rw [hr, EReal.coe_mul]
  rw [h, Ideal.sqrt_coe, if_neg (not_lt.2 (Finset.sum_nonneg fun i _ => mul_self_nonneg _))]
  exact ⟨_, rfl⟩

/-- An angle of reals is real. -/
theorem IsReal.atan2 {x y : EReal} (hx : IsReal x) (hy : IsReal y) : IsReal (Ideal.atan2 x y) := by
  obtain ⟨a, rfl⟩ := hx; obtain ⟨b, rfl⟩ := hy; exact ⟨_, rfl⟩

/-- The angles are real. -/
theorem Finite.ang (H : Finite A) (n m : Fin 256) (k : Fin 10) : IsReal (A.ang n m k) := by
  have h1 : ∀ i, IsReal (A.toNb n k i) := fun i => (H.c _ _).sub (H.c _ _)
  have h2 : ∀ i, IsReal (A.toPt n m i) := fun i => (H.c _ _).sub (H.c _ _)
  unfold Inputs.ang
  rw [Consts.chalf]
  exact (IsReal.atan2 (IsReal.sum _ _ fun i => (h1 i).mul (h2 i)) ((IsReal.norm _ h1).mul (IsReal.norm _ h2))).mul (IsReal.coe _)

/-- The frequencies are real. -/
theorem IsReal.fr (j : Fin 64) : IsReal (Inputs.fr j) := by
  obtain ⟨r, hr⟩ := Consts.cfreq
  unfold Inputs.fr
  rw [hr, Consts.c2, ← EReal.coe_mul, ← EReal.coe_mul]
  exact ⟨_, rfl⟩

/-- The kernel's frequencies are these. -/
theorem fr_eq (j : Fin 64) :
    Ideal.exp ((((BitVec.ofNat 32 j.val).toInt : ℝ) : EReal) * Ideal.ofBits .f32 0xBE135D8E#32) = Inputs.fr j := by
  unfold Inputs.fr
  rw [Consts.cfreq_two]
  congr 1
  rw [← mul_assoc, mul_comm _ (Ideal.ofBits .f32 0x40000000#32)]

/-- The kernel's score is the score. -/
theorem kscore_eq (H : Finite A) (h : Fin 4) (n m : Fin 256) : A.kscore h n m = A.score h n m := by
  choose q hq using fun x : Fin 32 => H.q n (ch h x)
  choose w hw using fun (x : Fin 32) (y : Fin 128) => H.wp (ch h x) y
  choose p hp using H.p1w
  choose a ha using H.ang n m
  choose g hg using IsReal.fr
  have hE : ∀ k x, A.emb n m k x = ((if x.val % 2 < 1 then Real.sin (a k * g ⟨x.val / 2, by omega⟩)
      else Real.cos (a k * g ⟨x.val / 2, by omega⟩) : ℝ) : EReal) := fun k x => by
    unfold Inputs.emb
    rw [ha, hg, ← EReal.coe_mul, Ideal.sin_coe, Ideal.cos_coe]
    split <;> rfl
  generalize hEd : (fun (k : Fin 10) (x : Fin 128) => (if x.val % 2 < 1 then Real.sin (a k * g ⟨x.val / 2, by omega⟩)
      else Real.cos (a k * g ⟨x.val / 2, by omega⟩) : ℝ)) = E at hE
  have hE' : ∀ k x, A.emb n m k x = (E k x : EReal) := fun k x => by rw [hE, ← hEd]
  have hs : ∀ k (j : Fin 64), E k ⟨2 * j.val, by omega⟩ = Real.sin (a k * g j) := fun k j => by
    rw [← hEd]
    show (if 2 * j.val % 2 < 1 then _ else _) = _
    rw [if_pos (by omega)]
    congr 3
    exact Fin.ext (by show 2 * j.val / 2 = j.val; omega)
  have hc : ∀ k (j : Fin 64), E k ⟨2 * j.val + 1, by omega⟩ = Real.cos (a k * g j) := fun k j => by
    rw [← hEd]
    show (if (2 * j.val + 1) % 2 < 1 then _ else _) = _
    rw [if_neg (by omega)]
    congr 3
    exact Fin.ext (by show (2 * j.val + 1) / 2 = j.val; omega)
  have key := position_real q w p (fun k j => Real.sin (a k * g j)) (fun k j => Real.cos (a k * g j)) E hs hc
  have h10 : (10 : ℝ) ≠ 0 := by norm_num
  have h32 : Real.sqrt 32 ≠ 0 := (Real.sqrt_pos.2 (by norm_num)).ne'
  unfold Inputs.kscore Inputs.score Inputs.us Inputs.uc Inputs.bc Inputs.pp Inputs.pos
  rw [Consts.c10, Consts.c32, Ideal.sqrt_coe, if_neg (by norm_num), Ideal.div_coe h32, Ideal.div_coe h10, inv_eq_one_div, add_assoc]
  congr 2
  simp only [hq, hw, hp, ha, hg, hE', Ideal.div_coe h10, ← EReal.coe_mul, Ideal.sin_coe, Ideal.cos_coe, ← coe_sum, ← EReal.coe_add,
    mean_bias, sum_bias, add_assoc, mul_add_coe]
  rw [key, Finset.sum_add_distrib, ← coe_sum]

end Cert.Spec

end
-- ==== Proof.KernelRun.lean ====
/- The kernel's run with its result: from any memory the two calls and the host code between them end with the result array
   at what the last boundary of the run holds there, and with every argument as it was. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The whole program runs, its result array ends at the last boundary's contents and its arguments are unchanged. -/
theorem run : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c)⟩)

end Cert.KernelIdeal.Value

end
-- ==== Proof.KernelFirst.lean ====
/- The arrays the kernel's first call leaves in memory, read at an index: the angles, the features, the query, the key, the
   value, the query through the position term's weights and the position term's bias. -/
module

public import proofs.«01_k».proof.Proof.KernelOuts
public import proofs.«01_k».proof.Proof.Position
public import proofs.«01_k».proof.Proof.KernelRun
public import Idealize.ShloMosaic.Lib.Pipeline.ValueKit
public import Idealize.ShloMosaic.Lib.StableHlo.ReadAt

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

/-- A function of sixteen arguments at equal arguments. -/
theorem app16 {A0 A1 A2 A3 A4 A5 A6 A7 A8 A9 A10 A11 A12 A13 A14 A15 B : Type}
    (f : A0 → A1 → A2 → A3 → A4 → A5 → A6 → A7 → A8 → A9 → A10 → A11 → A12 → A13 → A14 → A15 → B)
    {x0 y0 x1 y1 x2 y2 x3 y3 x4 y4 x5 y5 x6 y6 x7 y7 x8 y8 x9 y9 x10 y10 x11 y11 x12 y12 x13 y13 x14 y14 x15 y15}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) (h14 : x14 = y14)
    (h15 : x15 = y15) : f x0 x1 x2 x3 x4 x5 x6 x7 x8 x9 x10 x11 x12 x13 x14 x15
      = f y0 y1 y2 y3 y4 y5 y6 y7 y8 y9 y10 y11 y12 y13 y14 y15 := by
  subst_vars
  rfl

section Blocks

variable (V : (c : Dev nD) → (b : Ref sig .tc) → Buf (Elt Ideal) ((c : Thread nD τ).loc b)) (c : Dev nD)

/-- Every input's block is at the array's start. -/
theorem idx0 : win0_0.index t0_0 = ![0, 0] ∧ win0_1.index t0_0 = ![0, 0] ∧ win0_2.index t0_0 = ![0, 0] ∧ win0_3.index t0_0 = ![0, 0] ∧
    win0_4.index t0_0 = ![0, 0] ∧ win0_5.index t0_0 = ![0, 0] ∧ win0_6.index t0_0 = ![0, 0] ∧ win0_7.index t0_0 = ![0, 0] ∧
    win0_8.index t0_0 = ![0, 0] ∧ win0_9.index t0_0 = ![0, 0] ∧ win0_10.index t0_0 = ![0, 0] ∧ win0_11.index t0_0 = ![0, 0]
    ∧ win0_12.index t0_0 = ![0, 0] ∧ win0_13.index t0_0 = ![0, 0] ∧ win0_14.index t0_0 = ![0, 0] ∧ win0_15.index t0_0 = ![0,
    0] := by
  decide +kernel

set_option maxHeartbeats 2000000 in
/-- Every input's block is its whole array. -/
theorem blk0 : iblk0 V c 0 t0_0 = V c main_v0 ∧ iblk0 V c 1 t0_0 = V c main_v1 ∧ iblk0 V c 2 t0_0 = V c main_arg2 ∧ iblk0 V c 3 t0_0 =
    V c main_arg3 ∧ iblk0 V c 4 t0_0 = V c main_arg4 ∧ iblk0 V c 5 t0_0 = V c main_v2 ∧ iblk0 V c 6 t0_0 = V c main_v3 ∧
    iblk0 V c 7 t0_0 = V c main_v4 ∧ iblk0 V c 8 t0_0 = V c main_arg7 ∧ iblk0 V c 9 t0_0 = V c main_v5 ∧ iblk0 V c 10 t0_0 =
    V c main_arg9 ∧ iblk0 V c 11 t0_0 = V c main_v6 ∧ iblk0 V c 12 t0_0 = V c main_arg11 ∧ iblk0 V c 13 t0_0 = V c main_v7 ∧
    iblk0 V c 14 t0_0 = V c main_arg13 ∧ iblk0 V c 15 t0_0 = V c main_v8 := by
  refine ⟨?_, ?_, ?_, ?_, ?_, ?_, ?_, ?_, ?_, ?_, ?_, ?_, ?_, ?_, ?_, ?_⟩ <;> (funext i; blk_ext [iblk0, idx0])

/-- What the one grid point leaves in an output's block is the array after the call. -/
theorem arr0 :
    (∀ X : S10x256x256.Idx → EReal, (dat0 V c).after 16 t0_0 = X → (dat0 V c).arrAt 16 cfg0.N = X)
    ∧ (∀ X : S256x128.Idx → EReal, (dat0 V c).after 17 t0_0 = X → (dat0 V c).arrAt 17 cfg0.N = X)
    ∧ (∀ X : S256x128.Idx → EReal, (dat0 V c).after 18 t0_0 = X → (dat0 V c).arrAt 18 cfg0.N = X)
    ∧ (∀ X : S256x128.Idx → EReal, (dat0 V c).after 19 t0_0 = X → (dat0 V c).arrAt 19 cfg0.N = X)
    ∧ (∀ X : S256x128.Idx → EReal, (dat0 V c).after 20 t0_0 = X → (dat0 V c).arrAt 20 cfg0.N = X)
    ∧ (∀ X : S256x256.Idx → EReal, (dat0 V c).after 21 t0_0 = X → (dat0 V c).arrAt 21 cfg0.N = X)
    ∧ (∀ X : S256x256.Idx → EReal, (dat0 V c).after 22 t0_0 = X → (dat0 V c).arrAt 22 cfg0.N = X)
    ∧ (∀ X : S1x128.Idx → EReal, (dat0 V c).after 23 t0_0 = X → (dat0 V c).arrAt 23 cfg0.N = X) := by
  refine ⟨fun X h => (dat0 V c).arrAt_eq_of_after_last 16 t0_0 (by decide +kernel) _ fun j => ?_,
    fun X h => (dat0 V c).arrAt_eq_of_after_last 17 t0_0 (by decide +kernel) _ fun j => ?_,
    fun X h => (dat0 V c).arrAt_eq_of_after_last 18 t0_0 (by decide +kernel) _ fun j => ?_,
    fun X h => (dat0 V c).arrAt_eq_of_after_last 19 t0_0 (by decide +kernel) _ fun j => ?_,
    fun X h => (dat0 V c).arrAt_eq_of_after_last 20 t0_0 (by decide +kernel) _ fun j => ?_,
    fun X h => (dat0 V c).arrAt_eq_of_after_last 21 t0_0 (by decide +kernel) _ fun j => ?_,
    fun X h => (dat0 V c).arrAt_eq_of_after_last 22 t0_0 (by decide +kernel) _ fun j => ?_,
    fun X h => (dat0 V c).arrAt_eq_of_after_last 23 t0_0 (by decide +kernel) _ fun j => ?_⟩
    <;> (blk_simp; exact congrFun h _)

set_option maxHeartbeats 4000000 in
/-- Each output array, from the input arrays. -/
theorem fin0 :
    (dat0 V c).arrAt 16 cfg0.N
      = out0_16 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 17 cfg0.N
      = out0_17 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 18 cfg0.N
      = out0_18 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 19 cfg0.N
      = out0_19 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 20 cfg0.N
      = out0_20 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 21 cfg0.N
      = out0_21 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 22 cfg0.N
      = out0_22 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8)
    ∧ (dat0 V c).arrAt 23 cfg0.N
      = out0_23 (F := Ideal) (V c main_v0) (V c main_v1) (V c main_arg2) (V c main_arg3) (V c main_arg4) (V c main_v2) (V c main_v3) (V c main_v4) (V
        c main_arg7) (V c main_v5) (V c main_arg9) (V c main_v6) (V c main_arg11) (V c main_v7) (V c main_arg13) (V c main_v8) := by
  obtain ⟨b0, b1, b2, b3, b4, b5, b6, b7, b8, b9, b10, b11, b12, b13, b14, b15⟩ := blk0 V c
  obtain ⟨a16, a17, a18, a19, a20, a21, a22, a23⟩ := arr0 V c
  exact ⟨a16 _ ((after0_16 V c t0_0).trans (app16 (out0_16 (F := Ideal)) b0 b1 b2 b3 b4 b5 b6 b7 b8 b9 b10 b11 b12 b13 b14 b15)),
    a17 _ ((after0_17 V c t0_0).trans (app16 (out0_17 (F := Ideal)) b0 b1 b2 b3 b4 b5 b6 b7 b8 b9 b10 b11 b12 b13 b14 b15)),
    a18 _ ((after0_18 V c t0_0).trans (app16 (out0_18 (F := Ideal)) b0 b1 b2 b3 b4 b5 b6 b7 b8 b9 b10 b11 b12 b13 b14 b15)),
    a19 _ ((after0_19 V c t0_0).trans (app16 (out0_19 (F := Ideal)) b0 b1 b2 b3 b4 b5 b6 b7 b8 b9 b10 b11 b12 b13 b14 b15)),
    a20 _ ((after0_20 V c t0_0).trans (app16 (out0_20 (F := Ideal)) b0 b1 b2 b3 b4 b5 b6 b7 b8 b9 b10 b11 b12 b13 b14 b15)),
    a21 _ ((after0_21 V c t0_0).trans (app16 (out0_21 (F := Ideal)) b0 b1 b2 b3 b4 b5 b6 b7 b8 b9 b10 b11 b12 b13 b14 b15)),
    a22 _ ((after0_22 V c t0_0).trans (app16 (out0_22 (F := Ideal)) b0 b1 b2 b3 b4 b5 b6 b7 b8 b9 b10 b11 b12 b13 b14 b15)),
    a23 _ ((after0_23 V c t0_0).trans (app16 (out0_23 (F := Ideal)) b0 b1 b2 b3 b4 b5 b6 b7 b8 b9 b10 b11 b12 b13 b14 b15))⟩

end Blocks

variable (m : (ℓ : Loc nD τ sig) → Buf (Elt Ideal) ℓ) (ρ : Dev nD → PrngReg) (c : Dev nD)

/-- The arguments in the kernel's memory, read at plain indices. -/
def kinp : Spec.Inputs where
  c i n := m ((c : Thread nD τ).loc main_arg0) (ix3 0 i n)
  f i n := m ((c : Thread nD τ).loc main_arg1) (ix3 0 i n)
  W1 o i := m ((c : Thread nD τ).loc main_arg2) (ix2 o i)
  W2 o i := m ((c : Thread nD τ).loc main_arg3) (ix2 o i)
  W3 o i := m ((c : Thread nD τ).loc main_arg4) (ix2 o i)
  p1w o i := m ((c : Thread nD τ).loc main_arg5) (ix2 o i)
  p1b o := m ((c : Thread nD τ).loc main_arg6) (ix1 o)
  wq o i := m ((c : Thread nD τ).loc main_arg7) (ix2 o i)
  bq o := m ((c : Thread nD τ).loc main_arg8) (ix1 o)
  wk o i := m ((c : Thread nD τ).loc main_arg9) (ix2 o i)
  bk o := m ((c : Thread nD τ).loc main_arg10) (ix1 o)
  wv o i := m ((c : Thread nD τ).loc main_arg11) (ix2 o i)
  bv o := m ((c : Thread nD τ).loc main_arg12) (ix1 o)
  wp o i := m ((c : Thread nD τ).loc main_arg13) (ix2 o i)
  bp o := m ((c : Thread nD τ).loc main_arg14) (ix1 o)
  p2w o i := m ((c : Thread nD τ).loc main_arg15) (ix2 o i)
  p2b o := m ((c : Thread nD τ).loc main_arg16) (ix1 o)
  lnw o := m ((c : Thread nD τ).loc main_arg17) (ix1 o)
  lnb o := m ((c : Thread nD τ).loc main_arg18) (ix1 o)

/-- The arrays the host code prepares for the call. -/
theorem prep0 :
    (∀ i n, @Eq EReal (V1 m ρ c main_v0 (ix2 i n)) ((kinp m c).c i n))
    ∧ (∀ i n, @Eq EReal (V1 m ρ c main_v1 (ix2 i n)) ((kinp m c).f i n))
    ∧ (∀ o (j : Fin 64), @Eq EReal (V1 m ρ c main_v2 (ix2 o j)) ((kinp m c).p1w o ⟨2 * j.val, by omega⟩))
    ∧ (∀ o (j : Fin 64), @Eq EReal (V1 m ρ c main_v3 (ix2 o j)) ((kinp m c).p1w o ⟨2 * j.val + 1, by omega⟩))
    ∧ (∀ o, @Eq EReal (V1 m ρ c main_v4 (ix2 0 o)) ((kinp m c).p1b o))
    ∧ (∀ o, @Eq EReal (V1 m ρ c main_v5 (ix2 0 o)) ((kinp m c).bq o))
    ∧ (∀ o, @Eq EReal (V1 m ρ c main_v6 (ix2 0 o)) ((kinp m c).bk o))
    ∧ (∀ o, @Eq EReal (V1 m ρ c main_v7 (ix2 0 o)) ((kinp m c).bv o))
    ∧ (∀ o, @Eq EReal (V1 m ρ c main_v8 (ix2 0 o)) ((kinp m c).bp o)) := by
  refine ⟨fun i n => ?_, fun i n => ?_, fun o j => ?_, fun o j => ?_, fun o => ?_, fun o => ?_, fun o => ?_, fun o => ?_, fun o => ?_⟩
    <;> (unfold_abbrev_sides; after_reads_at)
  all_goals exact congrArg (m ((c : Thread nD τ).loc main_arg5)) (congrArg (ix2 o) (Fin.ext (Nat.add_comm _ _)))

/-- The arguments the call takes as they are. -/
theorem keep0 :
    (∀ o i, @Eq EReal (V1 m ρ c main_arg2 (ix2 o i)) ((kinp m c).W1 o i))
    ∧ (∀ o i, @Eq EReal (V1 m ρ c main_arg3 (ix2 o i)) ((kinp m c).W2 o i))
    ∧ (∀ o i, @Eq EReal (V1 m ρ c main_arg4 (ix2 o i)) ((kinp m c).W3 o i))
    ∧ (∀ o i, @Eq EReal (V1 m ρ c main_arg7 (ix2 o i)) ((kinp m c).wq o i))
    ∧ (∀ o i, @Eq EReal (V1 m ρ c main_arg9 (ix2 o i)) ((kinp m c).wk o i))
    ∧ (∀ o i, @Eq EReal (V1 m ρ c main_arg11 (ix2 o i)) ((kinp m c).wv o i))
    ∧ (∀ o i, @Eq EReal (V1 m ρ c main_arg13 (ix2 o i)) ((kinp m c).wp o i)) :=
  ⟨fun o i => congrFun (W1_args m ρ c main_arg2 (by decide)) _,
    fun o i => congrFun (W1_args m ρ c main_arg3 (by decide)) _,
    fun o i => congrFun (W1_args m ρ c main_arg4 (by decide)) _,
    fun o i => congrFun (W1_args m ρ c main_arg7 (by decide)) _,
    fun o i => congrFun (W1_args m ρ c main_arg9 (by decide)) _,
    fun o i => congrFun (W1_args m ρ c main_arg11 (by decide)) _,
    fun o i => congrFun (W1_args m ρ c main_arg13 (by decide)) _⟩

section Real

variable (H : Spec.Finite (kinp m c))

include H in
/-- The rows the host code prepares pick the neighbours. -/
theorem picks0 : Picks (kinp m c) (kOhs (V1 m ρ c main_v0)) := picks (kinp m c) _ (prep0 m ρ c).1 H.c

include H in
/-- The features before the last activation, from the arguments. -/
theorem pre0 (o : Fin 128) (n : Fin 256) :
    @Eq EReal (kPre (V1 m ρ c main_v0) (V1 m ρ c main_v1) (V1 m ρ c main_arg2) (V1 m ρ c main_arg3) (V1 m ρ c main_arg4) (ix2 o n))
      (Spec.nrm (Ideal.ofBits .f32 0x43800000#32) ((kinp m c).h3 o) n) := by
  obtain ⟨k1, k2, k3, -⟩ := keep0 m ρ c
  have hf : ∀ i n, @Eq EReal (k0_pay2 (F := Ideal) (V1 m ρ c main_v1) (ix2 i n)) ((kinp m c).f i n) := fun i n => by
    have h := (prep0 m ρ c).2.1 i n
    generalize V1 m ρ c main_v1 = x at h
    pointwise [k0_pay2]
    exact h
  exact kX3_read (kinp m c) _ _ _ _ _ hf (picks0 m ρ c H) k1 k2 k3 o n

include H in
/-- The angles after the call. -/
theorem W2_ang (k : Fin 10) (n j : Fin 256) :
    @Eq EReal (W2 m ρ c (Proc.devRef .tc main_v9_0) (ix3 k n j)) ((kinp m c).ang n j k) := by
  refine (congrFun ((W2_arr m ρ c 16).trans ((fin0 (V1 m ρ) c).1.trans (out16 _ _ _ _ _ _ _ _ _ _ _ _ _ _ _ _))) (ix3 k n j)).trans ?_
  exact out16_read (kinp m c) _ (prep0 m ρ c).1 (picks0 m ρ c H) k n j

include H in
/-- The features after the call. -/
theorem W2_x3 (n : Fin 256) (o : Fin 128) :
    @Eq EReal (W2 m ρ c (Proc.devRef .tc main_v9_1) (ix2 n o)) ((kinp m c).x3 n o) := by
  refine (congrFun ((W2_arr m ρ c 17).trans ((fin0 (V1 m ρ) c).2.1.trans (out17 _ _ _ _ _ _ _ _ _ _ _ _ _ _ _ _))) (ix2 n o)).trans ?_
  exact kFeat_read (kinp m c) _ (pre0 m ρ c H) n o

include H in
/-- The query after the call. -/
theorem W2_q (n : Fin 256) (o : Fin 128) :
    @Eq EReal (W2 m ρ c (Proc.devRef .tc main_v9_2) (ix2 n o)) ((kinp m c).lin (kinp m c).wq (kinp m c).bq n o) := by
  refine (congrFun ((W2_arr m ρ c 18).trans ((fin0 (V1 m ρ) c).2.2.1.trans (out18 _ _ _ _ _ _ _ _ _ _ _ _ _ _ _ _))) (ix2 n o)).trans ?_
  exact kLin_read (kinp m c) _ _ _ _ _ (pre0 m ρ c H) (keep0 m ρ c).2.2.2.1 (prep0 m ρ c).2.2.2.2.2.1 n o

include H in
/-- The key after the call. -/
theorem W2_k (n : Fin 256) (o : Fin 128) :
    @Eq EReal (W2 m ρ c (Proc.devRef .tc main_v9_3) (ix2 n o)) ((kinp m c).lin (kinp m c).wk (kinp m c).bk n o) := by
  refine (congrFun ((W2_arr m ρ c 19).trans ((fin0 (V1 m ρ) c).2.2.2.1.trans (out19 _ _ _ _ _ _ _ _ _ _ _ _ _ _ _ _))) (ix2 n o)).trans ?_
  exact kLin_read (kinp m c) _ _ _ _ _ (pre0 m ρ c H) (keep0 m ρ c).2.2.2.2.1 (prep0 m ρ c).2.2.2.2.2.2.1 n o

include H in
/-- The value after the call. -/
theorem W2_v (n : Fin 256) (o : Fin 128) :
    @Eq EReal (W2 m ρ c (Proc.devRef .tc main_v9_4) (ix2 n o)) ((kinp m c).lin (kinp m c).wv (kinp m c).bv n o) := by
  refine (congrFun ((W2_arr m ρ c 20).trans ((fin0 (V1 m ρ) c).2.2.2.2.1.trans (out20 _ _ _ _ _ _ _ _ _ _ _ _ _ _ _ _))) (ix2 n o)).trans ?_
  exact kLin_read (kinp m c) _ _ _ _ _ (pre0 m ρ c H) (keep0 m ρ c).2.2.2.2.2.1 (prep0 m ρ c).2.2.2.2.2.2.2.1 n o

include H in
/-- The query, as the position term's weights take it. -/
theorem q0 (n : Fin 256) (o : Fin 128) :
    @Eq EReal (kLin (kPre (V1 m ρ c main_v0) (V1 m ρ c main_v1) (V1 m ρ c main_arg2) (V1 m ρ c main_arg3) (V1 m ρ c main_arg4))
      (V1 m ρ c main_arg7) (V1 m ρ c main_v5) (ix2 n o)) ((kinp m c).lin (kinp m c).wq (kinp m c).bq n o) :=
  kLin_read (kinp m c) _ _ _ _ _ (pre0 m ρ c H) (keep0 m ρ c).2.2.2.1 (prep0 m ρ c).2.2.2.2.2.1 n o

include H in
/-- The query through the sines' weights after the call. -/
theorem W2_us (n : Fin 256) (h : Fin 4) (j : Fin 64) :
    @Eq EReal (W2 m ρ c (Proc.devRef .tc main_v9_5) (ix2 n ⟨h.val * 64 + j.val, by omega⟩)) ((kinp m c).us h n j) := by
  refine (congrFun ((W2_arr m ρ c 21).trans ((fin0 (V1 m ρ) c).2.2.2.2.2.1.trans (out21 _ _ _ _ _ _ _ _ _ _ _ _ _ _ _ _)))
    (ix2 n ⟨h.val * 64 + j.val, by omega⟩)).trans ?_
  refine (kU_read _ _ _ h n j).trans ?_
  simp only [q0 m ρ c H, (keep0 m ρ c).2.2.2.2.2.2, (prep0 m ρ c).2.2.1]
  rfl

include H in
/-- The query through the cosines' weights after the call. -/
theorem W2_uc (n : Fin 256) (h : Fin 4) (j : Fin 64) :
    @Eq EReal (W2 m ρ c (Proc.devRef .tc main_v9_6) (ix2 n ⟨h.val * 64 + j.val, by omega⟩)) ((kinp m c).uc h n j) := by
  refine (congrFun ((W2_arr m ρ c 22).trans ((fin0 (V1 m ρ) c).2.2.2.2.2.2.1.trans (out22 _ _ _ _ _ _ _ _ _ _ _ _ _ _ _ _)))
    (ix2 n ⟨h.val * 64 + j.val, by omega⟩)).trans ?_
  refine (kU_read _ _ _ h n j).trans ?_
  simp only [q0 m ρ c H, (keep0 m ρ c).2.2.2.2.2.2, (prep0 m ρ c).2.2.2.1]
  rfl

end Real

/-- The position term's bias after the call. -/
theorem W2_bc (o : Fin 128) : @Eq EReal (W2 m ρ c (Proc.devRef .tc main_v9_7) (ix2 0 o)) ((kinp m c).bc o) := by
  refine (congrFun ((W2_arr m ρ c 23).trans ((fin0 (V1 m ρ) c).2.2.2.2.2.2.2.trans (out23 _ _ _ _ _ _ _ _ _ _ _ _ _ _ _ _))) (ix2 0 o)).trans ?_
  refine (kB_read _ _ _ o).trans ?_
  simp only [(keep0 m ρ c).2.2.2.2.2.2, (prep0 m ρ c).2.2.2.2.1, (prep0 m ρ c).2.2.2.2.2.2.2.2]
  rfl

end Cert.KernelIdeal.Value

end
-- ==== Proof.KernelAttn.lean ====
/- What the kernel's second call computes in one block of rows: the scores of the four heads, the attention, the output layer
   and the layer norm. -/
module

public import proofs.«01_k».proof.Proof.KernelOuts
public import proofs.«01_k».proof.Proof.Position

@[expose] public section

set_option maxRecDepth 16384

noncomputable section

namespace Cert.KernelIdeal.Value

open Idealize.ShloMosaic Idealize.ShloMosaic.Tactic
open Cert.KernelIdeal Cert.KernelIdeal.Gen

/-- The sines, summed over the neighbours. -/
def kSin (th : S10x32x256.Idx → EReal) : S32x64x256.Idx → EReal :=
  k1_pay16 (F := Ideal) (k1_pay5 th) (k1_pay8 th) (k1_pay11 th) (k1_pay14 th)

/-- The cosines, summed over the neighbours. -/
def kCos (th : S10x32x256.Idx → EReal) : S32x64x256.Idx → EReal :=
  k1_pay17 (F := Ideal) (k1_pay6 th) (k1_pay9 th) (k1_pay12 th) (k1_pay15 th)

/-- The frequencies, read. -/
theorem kFr_read (j : Fin 64) : @Eq EReal (k1_pay3 (F := Ideal) (ix2 j 0)) (Spec.Inputs.fr j) := by
  refine Eq.trans ?_ (Spec.fr_eq j)
  pointwise [k1_pay3]
  rfl

/-- The sines, read. -/
theorem kSin_read (th : S10x32x256.Idx → EReal) (r : Fin 32) (j : Fin 64) (m : Fin 256) :
    @Eq EReal (kSin th (ix3 r j m)) (∑ k, Ideal.sin (th (ix3 k r m) * Spec.Inputs.fr j)) := by
  unfold kSin
  pointwise [k1_pay16, k1_pay5, k1_pay8, k1_pay11, k1_pay14, k1_pay4, k1_pay7, k1_pay10, k1_pay13, k1_pay2]
  simp only [kFr_read]
  split
  · rfl
  · split
    · simp only [show 64 + (m.val - 64) = m.val by omega]
    · split
      · simp only [show 128 + (m.val - 64 - 64) = m.val by omega]
      · simp only [show 192 + (m.val - 64 - 64 - 64) = m.val by omega]

/-- The cosines, read. -/
theorem kCos_read (th : S10x32x256.Idx → EReal) (r : Fin 32) (j : Fin 64) (m : Fin 256) :
    @Eq EReal (kCos th (ix3 r j m)) (∑ k, Ideal.cos (th (ix3 k r m) * Spec.Inputs.fr j)) := by
  unfold kCos
  pointwise [k1_pay17, k1_pay6, k1_pay9, k1_pay12, k1_pay15, k1_pay4, k1_pay7, k1_pay10, k1_pay13, k1_pay2]
  simp only [kFr_read]
  split
  · rfl
  · split
    · simp only [show 64 + (m.val - 64) = m.val by omega]
    · split
      · simp only [show 128 + (m.val - 64 - 64) = m.val by omega]
      · simp only [show 192 + (m.val - 64 - 64 - 64) = m.val by omega]

/-- The scale of the scores. -/
theorem scale_eq : @Eq EReal (Named.named (F := Ideal) κ "scale" (φ := .f32) 0x3E3504F3#32) (((Real.sqrt 32)⁻¹ : ℝ) : EReal) :=
  IdealRules.named_const.ideal_named_scalar _ _ _ _ rfl

variable (A : Spec.Inputs)

/-- The attention's output in a head's channel. -/
theorem hid_ch (n : Fin 256) (h : Fin 4) (x : Fin 32) : A.hid n (Spec.ch h x)
    = ∑ m, Ideal.div (A.ex h n m) (∑ m', A.ex h n m') * A.lin A.wv A.bv m (Spec.ch h x) := by
  have e : (⟨(Spec.ch h x).val / 32, by have := (Spec.ch h x).isLt; omega⟩ : Fin 4) = h :=
    Fin.ext (by show (h.val * 32 + x.val) / 32 = h.val; omega)
  unfold Spec.Inputs.hid
  rw [e]

/-- What the arrays of a block read, its row `r` the point `row r`. -/
structure Rows (row : Fin 32 → Fin 256) (S C : S32x64x256.Idx → EReal) (q : S32x128.Idx → EReal) (us uc : S32x256.Idx → EReal)
    (kk v : S256x128.Idx → EReal) (cq : S32x128.Idx → EReal) : Prop where
  /-- the sines -/
  S : ∀ r j m, S (ix3 r j m) = ∑ k, Ideal.sin (A.ang (row r) m k * Spec.Inputs.fr j)
  /-- the cosines -/
  C : ∀ r j m, C (ix3 r j m) = ∑ k, Ideal.cos (A.ang (row r) m k * Spec.Inputs.fr j)
  /-- the query -/
  q : ∀ r x, q (ix2 r x) = A.lin A.wq A.bq (row r) x
  /-- the query through the even weights -/
  us : ∀ r (h : Fin 4) (j : Fin 64), us (ix2 r ⟨h.val * 64 + j.val, by omega⟩) = A.us h (row r) j
  /-- the query through the odd weights -/
  uc : ∀ r (h : Fin 4) (j : Fin 64), uc (ix2 r ⟨h.val * 64 + j.val, by omega⟩) = A.uc h (row r) j
  /-- the key -/
  k : ∀ m x, kk (ix2 m x) = A.lin A.wk A.bk m x
  /-- the value -/
  v : ∀ m x, v (ix2 m x) = A.lin A.wv A.bv m x
  /-- the query against the position term's bias -/
  cq : ∀ r x, cq (ix2 r x) = A.lin A.wq A.bq (row r) x * A.bc x

variable {A} {row : Fin 32 → Fin 256} {S C : S32x64x256.Idx → EReal} {q : S32x128.Idx → EReal} {us uc : S32x256.Idx → EReal}
  {kk v : S256x128.Idx → EReal} {cq : S32x128.Idx → EReal}

/-- The second head. -/
theorem head1_read (H : Spec.Finite A) (R : Rows A row S C q us uc kk v cq) (r : Fin 32) (x : Fin 32) :
    @Eq EReal (k1_pay27 (F := Ideal) S C q us uc kk v cq (ix2 r x)) (A.hid (row r) (Spec.ch 1 x)) := by
  have hus : ∀ j : Fin 64, us (ix2 r ⟨64 + j.val, by omega⟩) = A.us 1 (row r) j := fun j => R.us r 1 j
  have huc : ∀ j : Fin 64, uc (ix2 r ⟨64 + j.val, by omega⟩) = A.uc 1 (row r) j := fun j => R.uc r 1 j
  rw [hid_ch]
  pointwise [k1_pay27]
  simp only [R.S, R.C, R.q, hus, huc, R.k, R.v, R.cq, ← ch_1, scale_eq]
  have hz : ∀ m, _ = A.score 1 (row r) m := fun m => Spec.kscore_eq H 1 (row r) m
  unfold Spec.Inputs.kscore at hz
  simp only [hz]
  rfl

/-- The third head. -/
theorem head2_read (H : Spec.Finite A) (R : Rows A row S C q us uc kk v cq) (r : Fin 32) (x : Fin 32) :
    @Eq EReal (k1_pay29 (F := Ideal) C q uc kk v cq (k1_pay28 (F := Ideal) S us) (ix2 r x)) (A.hid (row r) (Spec.ch 2 x)) := by
  have hus : ∀ j : Fin 64, us (ix2 r ⟨128 + j.val, by omega⟩) = A.us 2 (row r) j := fun j => R.us r 2 j
  have huc : ∀ j : Fin 64, uc (ix2 r ⟨128 + j.val, by omega⟩) = A.uc 2 (row r) j := fun j => R.uc r 2 j
  rw [hid_ch]
  pointwise [k1_pay29, k1_pay28]
  simp only [R.S, R.C, R.q, hus, huc, R.k, R.v, R.cq, ← ch_2, scale_eq]
  have hz : ∀ m, _ = A.score 2 (row r) m := fun m => Spec.kscore_eq H 2 (row r) m
  unfold Spec.Inputs.kscore at hz
  simp only [hz]
  rfl

/-- The first head's scores. -/
def kZ0 (S C : FVec Ideal S32x64x256 .f32) (q : FVec Ideal S32x128 .f32) (us uc : FVec Ideal S32x256 .f32) (kk : FVec Ideal S256x128 .f32)
    (cq : FVec Ideal S32x128 .f32) : FVec Ideal S32x256 .f32 :=
  mulf (F := Ideal) (φ := .f32) (addf (addf
      (matmul dot_S32x32_S256x32_S32x256_1_1_0_0_n_n none (extractStridedSlice S32x32 ![0, 0] q slices_S32x128_o0_0_S32x32)
        (extractStridedSlice S256x32 ![0, 0] kk slices_S256x128_o0_0_S256x32) (constant S32x256 .f32 0x00000000#32))
      (divf (addf
          (multiReduction .add [1] S32x256 (mulf S (broadcastTo S32x64x256 (shapeCast S32x64x1
            (extractStridedSlice S32x64 ![0, 0] us slices_S32x256_o0_0_S32x64) shapeCasts_S32x64_S32x64x1)
            broadcasts_S32x64x1_S32x64x256)) 0x00000000#32 reduces_S32x64x256_S32x256 (.inl rfl) rfl)
          (multiReduction .add [1] S32x256 (mulf C (broadcastTo S32x64x256 (shapeCast S32x64x1
            (extractStridedSlice S32x64 ![0, 0] uc slices_S32x256_o0_0_S32x64) shapeCasts_S32x64_S32x64x1)
            broadcasts_S32x64x1_S32x64x256)) 0x00000000#32 reduces_S32x64x256_S32x256 (.inl rfl) rfl))
        (broadcast S32x256 (Scalar.ofBits .f32 0x41200000#32))))
      (broadcastTo S32x256 (shapeCast S32x1 (multiReduction .add [1] S32
        (extractStridedSlice S32x32 ![0, 0] cq slices_S32x128_o0_0_S32x32) 0x00000000#32 reduces_S32x32_S32 (.inl rfl) rfl)
        shapeCasts_S32_S32x1) broadcasts_S32x1_S32x256))
    (broadcast S32x256 (Named.named κ "scale" 0x3E3504F3#32))

/-- The first head's scores, read. -/
theorem kZ0_read (H : Spec.Finite A) (R : Rows A row S C q us uc kk v cq) (r : Fin 32) (m : Fin 256) :
    @Eq EReal (kZ0 S C q us uc kk cq (ix2 r m)) (A.score 0 (row r) m) := by
  have hus : ∀ j : Fin 64, us (ix2 r ⟨j.val, by omega⟩) = A.us 0 (row r) j := fun j => by
    rw [← R.us r 0 j]
    congr 2
    exact Fin.ext (Nat.zero_add _).symm
  have huc : ∀ j : Fin 64, uc (ix2 r ⟨j.val, by omega⟩) = A.uc 0 (row r) j := fun j => by
    rw [← R.uc r 0 j]
    congr 2
    exact Fin.ext (Nat.zero_add _).symm
  pointwise [kZ0]
  simp only [R.S, R.C, R.q, hus, huc, R.k, R.v, R.cq, ← ch_0, scale_eq]
  exact Spec.kscore_eq H 0 (row r) m

/-- The first head. -/
theorem head0_read (H : Spec.Finite A) (R : Rows A row S C q us uc kk v cq) (r : Fin 32) (x : Fin 32) :
    @Eq EReal (k1_pay26 (F := Ideal) v (kZ0 S C q us uc kk cq) (multiReduction (F := Ideal) .maximumf [1] S32 (kZ0 S C q us uc kk cq)
      0xFF800000#32 reduces_S32x256_S32 (.inl rfl) rfl) (ix2 r x)) (A.hid (row r) (Spec.ch 0 x)) := by
  have hz := kZ0_read H R
  generalize kZ0 S C q us uc kk cq = z at hz
  rw [hid_ch]
  pointwise [k1_pay26]
  simp only [hz, R.v, ← ch_0]
  rfl

/-- The fourth head's scores. -/
def kZ3 (S C : FVec Ideal S32x64x256 .f32) (q : FVec Ideal S32x128 .f32) (us uc : FVec Ideal S32x256 .f32) (kk : FVec Ideal S256x128 .f32)
    (cq : FVec Ideal S32x128 .f32) : FVec Ideal S32x256 .f32 :=
  mulf (F := Ideal) (φ := .f32) (addf (addf
      (matmul dot_S32x32_S256x32_S32x256_1_1_0_0_n_n none (extractStridedSlice S32x32 ![0, 96] q slices_S32x128_o0_96_S32x32)
        (extractStridedSlice S256x32 ![0, 96] kk slices_S256x128_o0_96_S256x32) (constant S32x256 .f32 0x00000000#32))
      (k1_pay30 S C us uc))
      (broadcastTo S32x256 (k1_pay31 cq) broadcasts_S32x1_S32x256))
    (broadcast S32x256 (Named.named κ "scale" 0x3E3504F3#32))

/-- The fourth head's scores, read. -/
theorem kZ3_read (H : Spec.Finite A) (R : Rows A row S C q us uc kk v cq) (r : Fin 32) (m : Fin 256) :
    @Eq EReal (kZ3 S C q us uc kk cq (ix2 r m)) (A.score 3 (row r) m) := by
  have hus : ∀ j : Fin 64, us (ix2 r ⟨192 + j.val, by omega⟩) = A.us 3 (row r) j := fun j => R.us r 3 j
  have huc : ∀ j : Fin 64, uc (ix2 r ⟨192 + j.val, by omega⟩) = A.uc 3 (row r) j := fun j => R.uc r 3 j
  pointwise [kZ3, k1_pay30, k1_pay31]
  simp only [R.S, R.C, R.q, hus, huc, R.k, R.v, R.cq, ← ch_3, scale_eq]
  exact Spec.kscore_eq H 3 (row r) m

/-- A head from its scores, the last head's columns of the value. -/
def kHead3 (v : FVec Ideal S256x128 .f32) (z : FVec Ideal S32x256 .f32) : FVec Ideal S32x32 .f32 :=
  have e : FVec Ideal S32x256 .f32 := exp (F := Ideal) (φ := .f32) (subf z (broadcastTo S32x256 (shapeCast S32x1
    (multiReduction .maximumf [1] S32 z 0xFF800000#32 reduces_S32x256_S32 (.inl rfl) rfl) shapeCasts_S32_S32x1)
    broadcasts_S32x1_S32x256))
  matmul (F := Ideal) dot_S32x256_S256x32_S32x32_1_0_0_1_n_n none
    (divf e (broadcastTo S32x256 (shapeCast S32x1
      (multiReduction .add [1] S32 e 0x00000000#32 reduces_S32x256_S32 (.inl rfl) rfl) shapeCasts_S32_S32x1) broadcasts_S32x1_S32x256))
    (extractStridedSlice S256x32 ![0, 96] v slices_S256x128_o0_96_S256x32) (constant S32x32 .f32 0x00000000#32)

/-- The fourth head. -/
theorem head3_read (H : Spec.Finite A) (R : Rows A row S C q us uc kk v cq) (r : Fin 32) (x : Fin 32) :
    @Eq EReal (kHead3 v (kZ3 S C q us uc kk cq) (ix2 r x)) (A.hid (row r) (Spec.ch 3 x)) := by
  have hz := kZ3_read H R
  generalize kZ3 S C q us uc kk cq = z at hz
  rw [hid_ch]
  pointwise [kHead3]
  simp only [hz, R.v, ← ch_3]
  rfl

/-- The output layer added to the features. -/
def kY (h0 h1 h2 h3 : FVec Ideal S32x32 .f32) (w : FVec Ideal S128x128 .f32) (b : FVec Ideal S1x128 .f32) (x3 : FVec Ideal S32x128 .f32) :
    FVec Ideal S32x128 .f32 :=
  addf (F := Ideal) (φ := .f32) (shapeCast S32x128 x3 shapeCasts_S32x128_S32x128)
    (addf (matmul dot_S32x128_S128x128_S32x128_1_1_0_0_n_n none
        (concatenate S32x128 1 [⟨S32x32, h0⟩, ⟨S32x32, h1⟩, ⟨S32x32, h2⟩, ⟨S32x32, h3⟩]
          concatenates_S32x32_S32x32_S32x32_S32x32_S32x128_d1) w (constant S32x128 .f32 0x00000000#32))
      (broadcastTo S32x128 (shapeCast S1x128 b shapeCasts_S1x128_S1x128) broadcasts_S1x128_S32x128))

/-- The output layer, read. -/
theorem kY_read (h0 h1 h2 h3 : S32x32.Idx → EReal) (w : S128x128.Idx → EReal) (b : S1x128.Idx → EReal) (x3 : S32x128.Idx → EReal)
    (e0 : ∀ r x, h0 (ix2 r x) = A.hid (row r) (Spec.ch 0 x)) (e1 : ∀ r x, h1 (ix2 r x) = A.hid (row r) (Spec.ch 1 x))
    (e2 : ∀ r x, h2 (ix2 r x) = A.hid (row r) (Spec.ch 2 x)) (e3 : ∀ r x, h3 (ix2 r x) = A.hid (row r) (Spec.ch 3 x))
    (hw : ∀ o x, w (ix2 o x) = A.p2w o x) (hb : ∀ o, b (ix2 0 o) = A.p2b o) (hx : ∀ r o, x3 (ix2 r o) = A.x3 (row r) o)
    (r : Fin 32) (o : Fin 128) : @Eq EReal (kY h0 h1 h2 h3 w b x3 (ix2 r o)) (A.y (row r) o) := by
  pointwise [kY]
  simp only [hw, hb, hx, e0, e1, e2, e3]
  unfold Spec.Inputs.y
  congr 2

/-- A row less its mean. -/
def kDevY (y : FVec Ideal S32x128 .f32) : FVec Ideal S32x128 .f32 :=
  subf (F := Ideal) (φ := .f32) y (broadcastTo S32x128 (divf (shapeCast S32x1
    (multiReduction .add [1] S32 y 0x00000000#32 reduces_S32x128_S32 (.inl rfl) rfl) shapeCasts_S32_S32x1)
    (broadcast S32x1 (Scalar.ofBits .f32 0x43000000#32))) broadcasts_S32x1_S32x128)

/-- The layer norm of a row less its mean. -/
def kOut (d : FVec Ideal S32x128 .f32) (w b : FVec Ideal S1x128 .f32) : FVec Ideal S32x128 .f32 :=
  k1_pay1 (F := Ideal) (divf (F := Ideal) (φ := .f32) (shapeCast S32x1
    (multiReduction .add [1] S32 (mulf (F := Ideal) (φ := .f32) d d) 0x00000000#32 reduces_S32x128_S32 (.inl rfl) rfl) shapeCasts_S32_S32x1)
    (broadcast S32x1 (Scalar.ofBits .f32 0x43000000#32))) d (k1_pay36 (F := Ideal)) w b

/-- The layer norm, read. -/
theorem kOut_read (y : S32x128.Idx → EReal) (w b : S1x128.Idx → EReal) (hy : ∀ r o, y (ix2 r o) = A.y (row r) o)
    (hw : ∀ o, w (ix2 0 o) = A.lnw o) (hb : ∀ o, b (ix2 0 o) = A.lnb o) (r : Fin 32) (o : Fin 128) :
    @Eq EReal (kOut (kDevY y) w b (ix2 r o)) (A.out (row r) o) := by
  have hd : ∀ r o, @Eq EReal (kDevY y (ix2 r o)) (A.y (row r) o - Ideal.div (∑ j, A.y (row r) j) (Ideal.ofBits .f32 0x43000000#32)) :=
    fun r o => by
      pointwise [kDevY]
      simp only [hy]
  generalize kDevY y = d at hd
  pointwise [kOut, k1_pay1, k1_pay36]
  simp only [hd, hw, hb]
  rfl

end Cert.KernelIdeal.Value

end
-- ==== Proof.KernelBlock.lean ====
/- A block of the kernel's second call, read at an index. -/
module

public import proofs.«01_k».proof.Proof.KernelAttn

@[expose] public section

set_option maxRecDepth 16384

noncomputable section

namespace Cert.KernelIdeal.Value

open Idealize.ShloMosaic Idealize.ShloMosaic.Tactic
open Cert.KernelIdeal Cert.KernelIdeal.Gen

/-- The output layer added to the features, from the blocks. -/
def kRow (x0 : S10x32x256.Idx → EReal) (x1 : S32x128.Idx → EReal) (x2 : S32x128.Idx → EReal) (x3 : S32x256.Idx → EReal) (x4 : S32x256.Idx → EReal) (x5 : S256x128.Idx → EReal) (x6 : S256x128.Idx → EReal) (x7 : S1x128.Idx → EReal) (x8 : S128x128.Idx → EReal) (x9 : S1x128.Idx → EReal) (x10 : S1x128.Idx → EReal) (x11 : S1x128.Idx → EReal) : S32x128.Idx → EReal :=
  kY (k1_pay26 (F := Ideal) (k1_pay22 x6) (kZ0 (kSin x0) (kCos x0) (k1_pay18 x1) (k1_pay19 x3) (k1_pay20 x4) (k1_pay21 x5) (k1_pay23 x1 x7))
      (multiReduction (F := Ideal) .maximumf [1] S32 (kZ0 (kSin x0) (kCos x0) (k1_pay18 x1) (k1_pay19 x3) (k1_pay20 x4) (k1_pay21 x5) (k1_pay23 x1 x7))
        0xFF800000#32 reduces_S32x256_S32 (.inl rfl) rfl))
    (k1_pay27 (F := Ideal) (kSin x0) (kCos x0) (k1_pay18 x1) (k1_pay19 x3) (k1_pay20 x4) (k1_pay21 x5) (k1_pay22 x6) (k1_pay23 x1 x7))
    (k1_pay29 (F := Ideal) (kCos x0) (k1_pay18 x1) (k1_pay20 x4) (k1_pay21 x5) (k1_pay22 x6) (k1_pay23 x1 x7)
      (k1_pay28 (F := Ideal) (kSin x0) (k1_pay19 x3)))
    (kHead3 (k1_pay22 x6) (kZ3 (kSin x0) (kCos x0) (k1_pay18 x1) (k1_pay19 x3) (k1_pay20 x4) (k1_pay21 x5) (k1_pay23 x1 x7)))
    x8 x9 x2

section Links

variable (x0 : Vec Ideal S10x32x256 .f32) (x1 : Vec Ideal S32x128 .f32) (x2 : Vec Ideal S32x128 .f32) (x3 : Vec Ideal S32x256 .f32) (x4 : Vec Ideal S32x256 .f32) (x5 : Vec Ideal S256x128 .f32) (x6 : Vec Ideal S256x128 .f32) (x7 : Vec Ideal S1x128 .f32) (x8 : Vec Ideal S128x128 .f32) (x9 : Vec Ideal S1x128 .f32) (x10 : Vec Ideal S1x128 .f32) (x11 : Vec Ideal S1x128 .f32)

/-- The printed head is this. -/
theorem link_h0 (h0 : View.ld x0 r1_0 = x0) (h1 : View.ld x1 r1_1 = x1) (h3 : View.ld x3 r1_2 = x3) (h4 : View.ld x4 r1_2 = x4)
    (h5 : View.ld x5 r1_3 = x5) (h6 : View.ld x6 r1_3 = x6) (h7 : View.ld x7 r1_4 = x7) :
    k1_pay53 x0 x1 x2 x3 x4 x5 x6 x7 x8 x9 x10 x11 = k1_pay26 (F := Ideal) (k1_pay22 x6) (kZ0 (kSin x0) (kCos x0) (k1_pay18 x1) (k1_pay19 x3) (k1_pay20 x4) (k1_pay21 x5) (k1_pay23 x1 x7))
      (multiReduction (F := Ideal) .maximumf [1] S32 (kZ0 (kSin x0) (kCos x0) (k1_pay18 x1) (k1_pay19 x3) (k1_pay20 x4) (k1_pay21 x5) (k1_pay23 x1 x7))
        0xFF800000#32 reduces_S32x256_S32 (.inl rfl) rfl) := by
  unfold k1_pay53 k1_pay51 k1_pay37 k1_pay38 k1_pay39 k1_pay40 k1_pay41 k1_pay42 k1_pay43 k1_pay44
  rw [h0, h1, h3, h4, h5, h6, h7]
  rfl

/-- The block the second call stores is this. -/
theorem out12 : out1_12 x0 x1 x2 x3 x4 x5 x6 x7 x8 x9 x10 x11 = kOut (kDevY (kRow x0 x1 x2 x3 x4 x5 x6 x7 x8 x9 x10 x11)) x10 x11 := by
  have h0 : View.ld x0 r1_0 = x0 := View.ld_unit_zero (funext fun a => by fin_cases a <;> rfl) _ _
  have h1 : View.ld x1 r1_1 = x1 := View.ld_unit_zero hz _ _
  have h2 : View.ld x2 r1_1 = x2 := View.ld_unit_zero hz _ _
  have h3 : View.ld x3 r1_2 = x3 := View.ld_unit_zero hz _ _
  have h4 : View.ld x4 r1_2 = x4 := View.ld_unit_zero hz _ _
  have h5 : View.ld x5 r1_3 = x5 := View.ld_unit_zero hz _ _
  have h6 : View.ld x6 r1_3 = x6 := View.ld_unit_zero hz _ _
  have h7 : View.ld x7 r1_4 = x7 := View.ld_unit_zero hz _ _
  have h8 : View.ld x8 r1_5 = x8 := View.ld_unit_zero hz _ _
  have h9 : View.ld x9 r1_4 = x9 := View.ld_unit_zero hz _ _
  have h10 : View.ld x10 r1_4 = x10 := View.ld_unit_zero hz _ _
  have h11 : View.ld x11 r1_4 = x11 := View.ld_unit_zero hz _ _
  unfold out1_12 kRow
  rw [View.canon_unit_zero hz, link_h0 x0 x1 x2 x3 x4 x5 x6 x7 x8 x9 x10 x11 h0 h1 h3 h4 h5 h6 h7]
  unfold k1_pay57 k1_pay56 k1_pay55 k1_pay54 k1_pay52 k1_pay51 k1_pay50 k1_pay49 k1_pay48 k1_pay47 k1_pay46 k1_pay45 k1_pay44
    k1_pay43 k1_pay42 k1_pay41 k1_pay40 k1_pay39 k1_pay38 k1_pay37
  rw [h0, h1, h2, h3, h4, h5, h6, h7, h8, h9, h10, h11]
  rfl

end Links

/-- The block read: its row `r` is the point `row r`. -/
theorem out12_read (A : Spec.Inputs) (H : Spec.Finite A) (row : Fin 32 → Fin 256) (x0 : S10x32x256.Idx → EReal) (x1 : S32x128.Idx → EReal) (x2 : S32x128.Idx → EReal) (x3 : S32x256.Idx → EReal) (x4 : S32x256.Idx → EReal) (x5 : S256x128.Idx → EReal) (x6 : S256x128.Idx → EReal) (x7 : S1x128.Idx → EReal) (x8 : S128x128.Idx → EReal) (x9 : S1x128.Idx → EReal) (x10 : S1x128.Idx → EReal) (x11 : S1x128.Idx → EReal)
    (e0 : ∀ k r m, x0 (ix3 k r m) = A.ang (row r) m k)
    (e1 : ∀ r x, x1 (ix2 r x) = A.lin A.wq A.bq (row r) x)
    (e2 : ∀ r x, x2 (ix2 r x) = A.x3 (row r) x)
    (e3 : ∀ r (h : Fin 4) (j : Fin 64), x3 (ix2 r ⟨h.val * 64 + j.val, by omega⟩) = A.us h (row r) j)
    (e4 : ∀ r (h : Fin 4) (j : Fin 64), x4 (ix2 r ⟨h.val * 64 + j.val, by omega⟩) = A.uc h (row r) j)
    (e5 : ∀ m x, x5 (ix2 m x) = A.lin A.wk A.bk m x)
    (e6 : ∀ m x, x6 (ix2 m x) = A.lin A.wv A.bv m x)
    (e7 : ∀ x, x7 (ix2 0 x) = A.bc x) (e8 : ∀ o x, x8 (ix2 o x) = A.p2w o x) (e9 : ∀ o, x9 (ix2 0 o) = A.p2b o)
    (e10 : ∀ o, x10 (ix2 0 o) = A.lnw o) (e11 : ∀ o, x11 (ix2 0 o) = A.lnb o) (r : Fin 32) (o : Fin 128) :
    @Eq EReal (out1_12 (F := Ideal) x0 x1 x2 x3 x4 x5 x6 x7 x8 x9 x10 x11 (ix2 r o)) (A.out (row r) o) := by
  rw [out12]
  have R : Rows A row (kSin x0) (kCos x0) (k1_pay18 (F := Ideal) x1) (k1_pay19 (F := Ideal) x3) (k1_pay20 (F := Ideal) x4)
      (k1_pay21 (F := Ideal) x5) (k1_pay22 (F := Ideal) x6) (k1_pay23 (F := Ideal) x1 x7) := by
    constructor
    · intro r j m; rw [kSin_read]; simp only [e0]
    · intro r j m; rw [kCos_read]; simp only [e0]
    · intro r x; pointwise [k1_pay18]; exact e1 r x
    · intro r h j; pointwise [k1_pay19]; exact e3 r h j
    · intro r h j; pointwise [k1_pay20]; exact e4 r h j
    · intro r x; pointwise [k1_pay21]; exact e5 r x
    · intro r x; pointwise [k1_pay22]; exact e6 r x
    · intro r x; pointwise [k1_pay23, k1_pay18]; rw [e1, e7]
  exact kOut_read (row := row) _ x10 x11 (kY_read _ _ _ _ x8 x9 x2 (head0_read H R) (head1_read H R) (head2_read H R)
    (head3_read H R) e8 e9 e2) e10 e11 r o

end Cert.KernelIdeal.Value

end
-- ==== Proof.KernelSecond.lean ====
/- The array the kernel's second call leaves, block by block, and the kernel's result. -/
module

public import proofs.«01_k».proof.Proof.KernelFirst
public import proofs.«01_k».proof.Proof.KernelBlock

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

/-- A row of the array, from its block and its place there. -/
def row (t : Fin cfg1.N) (r : Fin 32) : Fin 256 := ⟨t.val * 32 + r.val, by have h : t.val < 8 := N_1 ▸ t.isLt; omega⟩

section Blocks

variable (V : (c : Dev nD) → (b : Ref sig .tc) → Buf (Elt Ideal) ((c : Thread nD τ).loc b)) (c : Dev nD) (t : Fin cfg1.N)

/-- Where the blocks of rows stand. -/
theorem idxRows : ∀ t : Fin cfg1.N, win1_0.index t = ![0, t.val, 0] ∧ win1_1.index t = ![t.val, 0] ∧ win1_2.index t = ![t.val, 0]
    ∧ win1_3.index t = ![t.val, 0] ∧ win1_4.index t = ![t.val, 0] ∧ win1_12.index t = ![t.val, 0] := by
  decide +kernel

/-- Where the other blocks stand. -/
theorem idxWhole : ∀ t : Fin cfg1.N, win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0] := by
  decide +kernel

set_option maxHeartbeats 2000000 in
/-- The blocks of rows, read. -/
theorem blkRows : (∀ (k : Fin 10) (r : Fin 32) (j : Fin 256), @Eq EReal (iblk1 V c 0 t (ix3 k r j)) (V c main_v9_0 (ix3 k (row t r) j)))
    ∧ (∀ (r : Fin 32) (x : Fin 128), @Eq EReal (iblk1 V c 1 t (ix2 r x)) (V c main_v9_2 (ix2 (row t r) x)))
    ∧ (∀ (r : Fin 32) (x : Fin 128), @Eq EReal (iblk1 V c 2 t (ix2 r x)) (V c main_v9_1 (ix2 (row t r) x)))
    ∧ (∀ (r : Fin 32) (x : Fin 256), @Eq EReal (iblk1 V c 3 t (ix2 r x)) (V c main_v9_5 (ix2 (row t r) x)))
    ∧ (∀ (r : Fin 32) (x : Fin 256), @Eq EReal (iblk1 V c 4 t (ix2 r x)) (V c main_v9_6 (ix2 (row t r) x))) := by
  unfold row
  refine ⟨fun k r j => ?_, fun r x => ?_, fun r x => ?_, fun r x => ?_, fun r x => ?_⟩ <;> blk_ext [iblk1, idxRows t]

set_option maxHeartbeats 2000000 in
/-- Every other block is its whole array. -/
theorem blkWhole : iblk1 V c 5 t = V c main_v9_3 ∧ iblk1 V c 6 t = V c main_v9_4 ∧ iblk1 V c 7 t = V c main_v9_7
    ∧ iblk1 V c 8 t = V c main_arg15 ∧ iblk1 V c 9 t = V c main_v10 ∧ iblk1 V c 10 t = V c main_v11
    ∧ iblk1 V c 11 t = V c main_v12 := by
  refine ⟨?_, ?_, ?_, ?_, ?_, ?_, ?_⟩ <;> (funext i; blk_ext [iblk1, idxWhole t])

/-- The array after the call is the one whose rows the blocks hold. -/
theorem arr1 (G : S256x128.Idx → EReal)
    (h : ∀ (t : Fin cfg1.N) (r : Fin 32) (o : Fin 128), @Eq EReal ((dat1 V c).after 12 t (ix2 r o)) (G (ix2 (row t r) o))) :
    (dat1 V c).arrAt 12 cfg1.N = G := by
  refine (dat1 V c).arrAt_eq_of_covers 12 _ (by decide +kernel) fun t hf y => ?_
  blk_simp
  have hy : y = ix2 (y 0) (y 1) := funext fun a => by fin_cases a <;> rfl
  refine ((congrArg ((dat1 V c).after 12 t) hy).trans (h t (y 0) (y 1))).trans ?_
  unfold row
  blk_ext [idxRows t]

end Blocks

variable (m : (ℓ : Loc nD τ sig) → Buf (Elt Ideal) ℓ) (ρ : Dev nD → PrngReg) (c : Dev nD)

/-- The arrays the host code prepares for the second call. -/
theorem prep1 : (∀ o, @Eq EReal (V3 m ρ c main_v10 (ix2 0 o)) ((kinp m c).p2b o))
    ∧ (∀ o, @Eq EReal (V3 m ρ c main_v11 (ix2 0 o)) ((kinp m c).lnw o))
    ∧ (∀ o, @Eq EReal (V3 m ρ c main_v12 (ix2 0 o)) ((kinp m c).lnb o)) := by
  have h16 := fun o => congrFun (W2_args m ρ c main_arg16 (by decide)) (ix1 o)
  have h17 := fun o => congrFun (W2_args m ρ c main_arg17 (by decide)) (ix1 o)
  have h18 := fun o => congrFun (W2_args m ρ c main_arg18 (by decide)) (ix1 o)
  refine ⟨fun o => Eq.trans ?_ (h16 o), fun o => Eq.trans ?_ (h17 o), fun o => Eq.trans ?_ (h18 o)⟩
    <;> (unfold_abbrev_sides; after_reads_at)

variable (H : Spec.Finite (kinp m c))

include H in
/-- What a grid point of the second call leaves in its block. -/
theorem after1 (t : Fin cfg1.N) (r : Fin 32) (o : Fin 128) :
    @Eq EReal ((dat1 (V3 m ρ) c).after 12 t (ix2 r o)) ((kinp m c).out (row t r) o) := by
  refine (congrFun (after1_12 (V3 m ρ) c t) (ix2 r o)).trans ?_
  obtain ⟨r0, r1, r2, r3, r4⟩ := blkRows (V3 m ρ) c t
  obtain ⟨w5, w6, w7, w8, w9, w10, w11⟩ := blkWhole (V3 m ρ) c t
  refine out12_read (kinp m c) H (row t) _ _ _ _ _ _ _ _ _ _ _ _ ?_ ?_ ?_ ?_ ?_ ?_ ?_ ?_ ?_ ?_ ?_ ?_ r o
  · exact fun k r j => (r0 k r j).trans ((congrFun (W3_of m ρ c main_v9_0 (by decide)) _).trans (W2_ang m ρ c H k _ j))
  · exact fun r x => (r1 r x).trans ((congrFun (W3_of m ρ c main_v9_2 (by decide)) _).trans (W2_q m ρ c H _ x))
  · exact fun r x => (r2 r x).trans ((congrFun (W3_of m ρ c main_v9_1 (by decide)) _).trans (W2_x3 m ρ c H _ x))
  · exact fun r h j => (r3 r _).trans ((congrFun (W3_of m ρ c main_v9_5 (by decide)) _).trans (W2_us m ρ c H _ h j))
  · exact fun r h j => (r4 r _).trans ((congrFun (W3_of m ρ c main_v9_6 (by decide)) _).trans (W2_uc m ρ c H _ h j))
  · exact fun n x => (congrFun w5 _).trans ((congrFun (W3_of m ρ c main_v9_3 (by decide)) _).trans (W2_k m ρ c H n x))
  · exact fun n x => (congrFun w6 _).trans ((congrFun (W3_of m ρ c main_v9_4 (by decide)) _).trans (W2_v m ρ c H n x))
  · exact fun x => (congrFun w7 _).trans ((congrFun (W3_of m ρ c main_v9_7 (by decide)) _).trans (W2_bc m ρ c x))
  · exact fun o x => (congrFun w8 _).trans (congrFun (W3_args m ρ c main_arg15 (by decide)) _)
  · exact fun o => (congrFun w9 _).trans ((prep1 m ρ c).1 o)
  · exact fun o => (congrFun w10 _).trans ((prep1 m ρ c).2.1 o)
  · exact fun o => (congrFun w11 _).trans ((prep1 m ρ c).2.2 o)

/-- The second call's array: the result, point by point. -/
def res : S256x128.Idx → EReal := fun i => (kinp m c).out (i 0) (i 1)

include H in
/-- The second call's array after the call. -/
theorem W4_out : W4 m ρ c (Proc.devRef .tc main_v13) = res m c :=
  (W4_arr m ρ c 12).trans (arr1 (V3 m ρ) c (res m c) fun t r o => after1 m ρ c H t r o)

include H in
/-- The kernel's result, read. -/
theorem W5_out (n : Fin 256) (o : Fin 128) :
    @Eq EReal (W5 m ρ c (Proc.devRef .tc main_v15) (ix3 0 o n)) ((kinp m c).out n o) := by
  refine Eq.trans ?_ (congrFun (W4_out m ρ c H) (ix2 n o))
  unfold_abbrev_sides
  after_reads_at

end Cert.KernelIdeal.Value

end
-- ==== Proof.Finite.lean ====
/- The precondition, read: every entry of the arrays it names is a real number. -/
module

public import proofs.«01_k».proof.Proof.Gen.Pre_finite
public import proofs.«01_k».proof.Defs
public import proofs.«01_k».proof.Proof.KernelFirst
public import Idealize.ShloMosaic.Lib.ReduceAll

@[expose] public section

set_option maxRecDepth 16384

noncomputable section

namespace Cert.Pre_finite.Value

open Idealize.ShloMosaic Idealize.ShloMosaic.TcCoe Idealize.ShloMosaic.Tactic
open Cert.Pre_finite

/-- A value whose magnitude is below infinity is real. -/
theorem real_of_lt (x : EReal) (h : max x (-x) < ⊤) : Spec.IsReal x := by
  induction x with
  | bot => exact absurd h (by simp)
  | coe r => exact ⟨r, rfl⟩
  | top => exact absurd h (by simp)

/-- The one index of a scalar. -/
theorem one_idx : Subsingleton S_.Idx := ⟨fun a b => funext fun i => i.elim0⟩

/-- An array whose every magnitude is below infinity has real entries. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : Spec.IsReal (x i) := by
  haveI := one_idx
  have h := Host.reduce_andi_all _ _ hr hu ix0 e i
  have h' : (BitVec.ofBool (decide (max (x i : EReal) (-(x i : EReal)) < Ideal.ofBits .f32 0x7F800000#32))) = 1#1 := h
  rw [Consts.inf_top] at h'
  refine real_of_lt _ ?_
  by_contra hc
  rw [decide_eq_false hc] at h'
  exact absurd h' (by decide)

/-- Two bits whose conjunction is one are both one. -/
theorem both (a b : IVec S_ 1) (h : andi a b ix0 = 1#1) : a ix0 = 1#1 ∧ b ix0 = 1#1 := by
  have h' : a ix0 &&& b ix0 = 1#1 := h
  generalize a ix0 = p at h' ⊢
  generalize b ix0 = q at h' ⊢
  revert p q
  decide

end Cert.Pre_finite.Value

namespace Cert.KernelIdeal.Value

open Idealize.ShloMosaic Idealize.ShloMosaic.TcCoe Idealize.ShloMosaic.Tactic
open Cert.Pre_finite.Value

/-- Under the precondition the arguments' entries that the claim needs real are real. -/
theorem finite (m : (ℓ : Loc nD τ sig) → Buf (Elt Ideal) ℓ) (hpre : Cert.Pre_KernelIdeal_finite m) (c : Dev nD) :
    Spec.Finite (kinp m c) := by
  have h := congrFun (hpre c) ix0
  unfold Cert.Pre_finite.fn Cert.Pre_finite.fn_part1 at h
  obtain ⟨h, e13⟩ := both _ _ h
  obtain ⟨h, e8⟩ := both _ _ h
  obtain ⟨h, e7⟩ := both _ _ h
  obtain ⟨h, e5⟩ := both _ _ h
  obtain ⟨-, e0⟩ := both _ _ h
  exact ⟨fun i n => all_real _ _ _ _ e0 _, fun i n => all_real _ _ _ _ e5 _, fun i n => all_real _ _ _ _ e7 _,
    fun i => all_real _ _ _ _ e8 _, fun i n => all_real _ _ _ _ e13 _⟩

end Cert.KernelIdeal.Value

end
-- ==== Proof.RefIndex.lean ====
/- The reference's neighbour indices: what the largest of the negated distances are, and what the two gathers take. -/
module

public import proofs.«01_k».proof.Proof.Gen.ReferenceIdeal.Run
public import Idealize.ShloMosaic.Lib.Pointwise
public import Idealize.ShloMosaic.Lib.Tactic.CleanTypes
public import proofs.«01_k».proof.Proof.Reals

@[expose] public section

set_option maxRecDepth 16384

noncomputable section

namespace Cert.ReferenceIdeal.Value

open Idealize.ShloMosaic Idealize.ShloMosaic.Tactic Idealize.ShloMosaic.Pipeline Idealize.ShloMosaic.StableHlo
open Cert.ReferenceIdeal Cert.ReferenceIdeal.Gen

/-- A small word's number. -/
theorem toInt_ofNat (a : Nat) (h : a < 2 ^ 31) : (BitVec.ofNat 32 a).toInt = a := by
  have h' : a < 2147483648 := h
  rw [BitVec.toInt_eq_toNat_cond, BitVec.toNat_ofNat, Nat.mod_eq_of_lt (by omega), if_pos (by omega)]

/-- The gather of channels by neighbour. -/
theorem gather_channels (x : S1x128x256.Idx → EReal) (idx : IVec S1x256x10x1 32) (c : Fin 128) (n : Fin 256) (k : Fin 10)
    (g : Fin 256) (h : idx (ix4 0 n k 0) = BitVec.ofNat 32 g.val) :
    Host.gather gather_S1x128x256_S1x256x10x1_S1x128x256x10_1_2_0_0_2_3_11281 x idx (ix4 0 c n k) = x (ix3 0 c g) := by
  unfold Host.gather
  congr 1
  funext a
  apply Fin.ext
  match a with
  | ⟨0, _⟩ => rfl
  | ⟨1, _⟩ =>
    show 0 + 0 + c.val = c.val
    omega
  | ⟨2, _⟩ =>
    show min (idx _).toInt.toNat 255 + 0 + 0 = g.val
    have e : idx (ix4 0 n k 0) = BitVec.ofNat 32 g.val := h
    have e' : min (idx (ix4 0 n k 0)).toInt.toNat 255 + 0 + 0 = g.val := by
      rw [e, toInt_ofNat _ (by omega)]
      simp only [Int.toNat_natCast]
      omega
    refine Eq.trans (congrArg (fun z => min (idx z).toInt.toNat 255 + 0 + 0) (?_ : _ = ix4 0 n k 0)) e'
    funext b
    fin_cases b <;> rfl

/-- The gather of coordinates by neighbour. -/
theorem gather_points (x : S1x256x2.Idx → EReal) (idx : IVec S1x256x10x1 32) (n : Fin 256) (k : Fin 10) (i : Fin 2)
    (g : Fin 256) (h : idx (ix4 0 n k 0) = BitVec.ofNat 32 g.val) :
    Host.gather gather_S1x256x2_S1x256x10x1_S1x256x10x2_3_1_0_0_1_3_112 x idx (ix4 0 n k i) = x (ix3 0 g i) := by
  unfold Host.gather
  congr 1
  funext a
  apply Fin.ext
  match a with
  | ⟨0, _⟩ => rfl
  | ⟨2, _⟩ =>
    show 0 + 0 + i.val = i.val
    omega
  | ⟨1, _⟩ =>
    show min (idx _).toInt.toNat 255 + 0 + 0 = g.val
    have e : idx (ix4 0 n k 0) = BitVec.ofNat 32 g.val := h
    have e' : min (idx (ix4 0 n k 0)).toInt.toNat 255 + 0 + 0 = g.val := by
      rw [e, toInt_ofNat _ (by omega)]
      simp only [Int.toNat_natCast]
      omega
    refine Eq.trans (congrArg (fun z => min (idx z).toInt.toNat 255 + 0 + 0) (?_ : _ = ix4 0 n k 0)) e'
    funext b
    fin_cases b <;> rfl

/-- The position a row's sort from the largest takes, in terms of the negated row. -/
theorem sorted_index (x : S1x256x256.Idx → EReal) (d : Fin 256 → Fin 256 → EReal) (hx : ∀ n m, x (ix3 0 n m) = -d n m)
    (h2 : 2 < S1x256x256.rank) (J : S1x256x256.Idx) (n : Fin 256) (hJ : (J 1).val = n.val) (t : Fin 256) (ht : J ⟨2, h2⟩ = t) :
    iotaInDim S1x256x256 32 ⟨2, h2⟩ (J.along ⟨2, h2⟩ (sortedFrom (fun a b => FloatOps.cmpfTotal (F := Ideal) (φ := .f32) .gt
      (x (J.along ⟨2, h2⟩ a)) (x (J.along ⟨2, h2⟩ b)) == 1#1) (J ⟨2, h2⟩)))
      = BitVec.ofNat 32 (Spec.place (d n) t).val := by
  have hal : ∀ q : Fin 256, J.along ⟨2, h2⟩ q = ix3 0 n q := by
    intro q
    funext a
    fin_cases a
    · exact Subsingleton.elim (α := Fin 1) _ _
    · exact Fin.ext hJ
    · rfl
  have hR : (fun a b : Fin 256 => FloatOps.cmpfTotal (F := Ideal) (φ := .f32) .gt
      (x (J.along ⟨2, h2⟩ a)) (x (J.along ⟨2, h2⟩ b)) == 1#1) = fun a b => decide (d n a < d n b) := by
    funext a b
    rw [hal a, hal b, hx, hx, Ideal.cmpfTotal_def]
    by_cases h : d n a < d n b
    · simp [Ideal.cmp, CmpDirection.ordered, h, EReal.neg_lt_neg_iff]
    · simp [Ideal.cmp, CmpDirection.ordered, h, EReal.neg_lt_neg_iff]
  have hI : ∀ q : Fin 256, iotaInDim S1x256x256 32 ⟨2, h2⟩ (J.along ⟨2, h2⟩ q) = BitVec.ofNat 32 q.val := fun q => by
    rw [hal q]
    rfl
  exact (hI _).trans ((congrArg₂ (fun (R : Fin 256 → Fin 256 → Bool) (t : Fin 256) => BitVec.ofNat 32 (sortedFrom R t).val)
    hR ht).trans (by rw [Spec.sortedFrom_lt]))

/-- The positions of the eleven largest of a row, the first left out: those of the eleven smallest of the negated row. -/
theorem topk_index (x : S1x256x256.Idx → EReal) (d : Fin 256 → Fin 256 → EReal) (hx : ∀ n m, x (ix3 0 n m) = -d n m)
    (n : Fin 256) (k : Fin 10) :
    extractStridedSlice S1x256x10 ![0, 0, 1] ((Host.topK (α := EReal) S1x256x11 2 (FloatOps.cmpfTotal (F := Ideal) (φ := .f32) .gt) x
      sliceFits_S1x256x256_S1x256x11).2) slices_S1x256x11_S1x256x10_0_0_1 (ix3 0 n k)
      = BitVec.ofNat 32 (Spec.place (d n) ⟨k.val + 1, by omega⟩).val := by
  have h2 : (2 : Nat) < S1x256x256.rank := by decide
  simp only [extractStridedSlice, Host.topK, Host.sort2, dif_pos h2]
  refine sorted_index x d hx h2 _ n ?_ _ ?_
  · show 0 + (0 + n.val) = n.val
    omega
  · apply Fin.ext
    show 0 + (1 + k.val) = k.val + 1
    omega

end Cert.ReferenceIdeal.Value

end
-- ==== Proof.RefValue.lean ====
/- What the reference's named terms read: each is the value the mathematics names. -/
module

public import proofs.«01_k».proof.Proof.RefIndex

@[expose] public section

set_option maxRecDepth 16384

noncomputable section

namespace Cert.ReferenceIdeal.Value

open Idealize.ShloMosaic Idealize.ShloMosaic.Tactic Idealize.ShloMosaic.Pipeline Idealize.ShloMosaic.StableHlo
open Cert.ReferenceIdeal Cert.ReferenceIdeal.Gen

variable (V : Valuation τ sig (Elt Ideal))

/-- The arguments at plain indices. -/
def inp : Spec.Inputs where
  c i n := V (Proc.devRef .tc main_arg0) (ix3 0 i n)
  f i n := V (Proc.devRef .tc main_arg1) (ix3 0 i n)
  W1 o i := V (Proc.devRef .tc main_arg2) (ix2 o i)
  W2 o i := V (Proc.devRef .tc main_arg3) (ix2 o i)
  W3 o i := V (Proc.devRef .tc main_arg4) (ix2 o i)
  p1w o i := V (Proc.devRef .tc main_arg5) (ix2 o i)
  p1b o := V (Proc.devRef .tc main_arg6) (ix1 o)
  wq o i := V (Proc.devRef .tc main_arg7) (ix2 o i)
  bq o := V (Proc.devRef .tc main_arg8) (ix1 o)
  wk o i := V (Proc.devRef .tc main_arg9) (ix2 o i)
  bk o := V (Proc.devRef .tc main_arg10) (ix1 o)
  wv o i := V (Proc.devRef .tc main_arg11) (ix2 o i)
  bv o := V (Proc.devRef .tc main_arg12) (ix1 o)
  wp o i := V (Proc.devRef .tc main_arg13) (ix2 o i)
  bp o := V (Proc.devRef .tc main_arg14) (ix1 o)
  p2w o i := V (Proc.devRef .tc main_arg15) (ix2 o i)
  p2b o := V (Proc.devRef .tc main_arg16) (ix1 o)
  lnw o := V (Proc.devRef .tc main_arg17) (ix1 o)
  lnb o := V (Proc.devRef .tc main_arg18) (ix1 o)

/-- The points, transposed. -/
theorem r_v0 (n : Fin 256) (i : Fin 2) : @Eq EReal (res_main_v0 V (ix3 0 n i)) ((inp V).c i n) := by
  unfold res_main_v0
  clean_types
  pointwise
  rfl
/-- The points, transposed. -/
theorem r_v29 (n : Fin 256) (i : Fin 2) : @Eq EReal (res_main_v29 V (ix3 0 n i)) ((inp V).c i n) := r_v0 V n i

/-- The negated clipped distances. -/
theorem r_v15 (n m : Fin 256) : @Eq EReal (res_main_v15 V (ix3 0 n m)) (-(inp V).dist n m) := by
  unfold res_main_v15
  clean_types
  pointwise
  simp only [r_v0]
  rfl

/-- The neighbours' positions. -/
theorem r_v16 (n : Fin 256) (k : Fin 10) :
    @Eq (BitVec 32) (res_main_v16 V (ix3 0 n k)) (BitVec.ofNat 32 ((inp V).nb n k).val) :=
  topk_index (res_main_v15 V) (inp V).dist (r_v15 V) n k

/-- The neighbours' positions, found a second time. -/
theorem r_v124 (n : Fin 256) (k : Fin 10) :
    @Eq (BitVec 32) (res_main_v124 V (ix3 0 n k)) (BitVec.ofNat 32 ((inp V).nb n k).val) := r_v16 V n k

/-- An index that is not negative is not wrapped. -/
theorem wrap (I : S1x256x10.Idx → BitVec 32) (n : Fin 256) (k : Fin 10) (g : Fin 256) (h : I (ix3 0 n k) = BitVec.ofNat 32 g.val) :
    broadcastInDim S1x256x10x1 ![0, 1, 2] bcast_S1x256x10_S1x256x10x1_0_1_2
      (select (cmpi .slt I (broadcastInDim S1x256x10 ![] bcast_S_S1x256x10 (constantI S_ 32 0#32)))
        (addi I (broadcastInDim S1x256x10 ![] bcast_S_S1x256x10 (constantI S_ 32 256#32))) I) (ix4 0 n k 0)
      = BitVec.ofNat 32 g.val := by
  have hs : (BitVec.ofNat 32 g.val).slt 0#32 = false := by
    rw [BitVec.slt_eq_decide, toInt_ofNat _ (by omega)]
    simp
  pointwise
  simp only [h]
  simp [IntOp.cmpi, hs]
  rfl

/-- From a point to its neighbour. -/
theorem r_v40 (n : Fin 256) (k : Fin 10) (i : Fin 2) : @Eq EReal (res_main_v40 V (ix5 0 n 0 k i)) ((inp V).toNb n k i) := by
  unfold res_main_v40
  clean_types
  pointwise
  rw [gather_points _ _ n k i _ (wrap _ n k _ (r_v16 V n k))]
  simp only [r_v29]
  rfl

/-- From a point to another. -/
theorem r_v46 (n m : Fin 256) (i : Fin 2) : @Eq EReal (res_main_v46 V (ix5 0 n m 0 i)) ((inp V).toPt n m i) := by
  unfold res_main_v46
  clean_types
  pointwise
  simp only [r_v29]
  rfl

/-- The features, one copy for each neighbour. -/
theorem r_v26 (o : Fin 128) (n : Fin 256) (k : Fin 10) : @Eq EReal (res_main_v26 V (ix4 0 o n k)) ((inp V).f o n) := by
  unfold res_main_v26
  clean_types
  pointwise
  rfl

/-- The first edge convolution. -/
theorem r_v60 (o : Fin 128) (n : Fin 256) (k : Fin 10) :
    @Eq EReal (res_main_v60 V (ix4 0 o n k)) ((inp V).conv (inp V).W1 (inp V).f o (n, k)) := by
  unfold res_main_v60
  clean_types
  pointwise
  simp only [r_v26, gather_channels _ _ _ n k _ (wrap _ n k _ (r_v16 V n k))]
  rfl

/-- A count less nothing is the count, and positive. -/
theorem cnt (b : BitVec 32) (r : ℝ) (hr : 0 < r) (h : Ideal.ofBits .f32 b = (r : EReal)) :
    Ideal.ofBits .f32 b - FloatOps.sitofp (F := Ideal) .f32 0#32 = Ideal.ofBits .f32 b ∧ (0 : EReal) < Ideal.ofBits .f32 b := by
  have h0 : FloatOps.sitofp (F := Ideal) .f32 0#32 = (0 : EReal) := by
    show ((((0#32).toInt : ℝ)) : EReal) = 0
    simp
  rw [h0, sub_zero, h]
  exact ⟨rfl, by exact_mod_cast hr⟩

/-- The first edge layer's count. -/
theorem r_call3_v8 : @Eq EReal (res_main_call3_v8 V ix0) (Ideal.ofBits .f32 0x45200000#32) := by
  unfold res_main_call3_v8
  clean_types
  pointwise
  exact (cnt _ _ (by norm_num) Consts.c2560).1

/-- The first edge layer's convolution less its mean. -/
theorem r_call3_v5 (o : Fin 128) (n : Fin 256) (k : Fin 10) :
    @Eq EReal (res_main_call3_v5 V (ix4 0 o n k)) ((inp V).conv (inp V).W1 (inp V).f o (n, k)
      - Ideal.div (∑ j, (inp V).conv (inp V).W1 (inp V).f o j) (Ideal.ofBits .f32 0x45200000#32)) := by
  unfold res_main_call3_v5
  clean_types
  pointwise
  simp only [r_v60, Fintype.sum_prod_type]

/-- The first edge layer, normalised. -/
theorem r_v72 (o : Fin 128) (n : Fin 256) (k : Fin 10) :
    @Eq EReal (res_main_v72 V (ix4 0 o n k))
      (Spec.nrm (Ideal.ofBits .f32 0x45200000#32) ((inp V).conv (inp V).W1 (inp V).f o) (n, k)) := by
  unfold res_main_v72
  clean_types
  pointwise
  simp only [r_v60, r_call3_v8, r_call3_v5, if_pos (cnt _ _ (by norm_num) Consts.c2560).2]
  unfold Spec.nrm
  simp only [Fintype.sum_prod_type]

/-- The first edge layer. -/
theorem r_v79 (o : Fin 128) (n : Fin 256) : @Eq EReal (res_main_v79 V (ix4 0 o n 0)) ((inp V).x1 o n) := by
  unfold res_main_v79
  clean_types
  pointwise
  simp only [r_v72]
  rfl

/-- The first edge layer, as the second's input. -/
theorem r_v107 (o : Fin 128) (n : Fin 256) : @Eq EReal (res_main_v107 V (ix3 0 o n)) ((inp V).x1 o n) := by
  unfold res_main_v107
  clean_types
  pointwise
  exact r_v79 V o n

/-- The first edge layer, one copy for each neighbour. -/
theorem r_v133 (o : Fin 128) (n : Fin 256) (k : Fin 10) : @Eq EReal (res_main_v133 V (ix4 0 o n k)) ((inp V).x1 o n) := by
  unfold res_main_v133
  clean_types
  pointwise
  exact r_v107 V o n

/-- The second edge convolution. -/
theorem r_v137 (o : Fin 256) (n : Fin 256) (k : Fin 10) :
    @Eq EReal (res_main_v137 V (ix4 0 o n k)) ((inp V).conv (inp V).W2 (inp V).x1 o (n, k)) := by
  unfold res_main_v137
  clean_types
  pointwise
  simp only [r_v133, gather_channels _ _ _ n k _ (wrap _ n k _ (r_v124 V n k)), r_v107]
  rfl

end Cert.ReferenceIdeal.Value

end
-- ==== Proof.RefResult.lean ====
/- What the reference's later terms read, down to its result. -/
module

public import proofs.«01_k».proof.Proof.RefValue

@[expose] public section

set_option maxRecDepth 16384

noncomputable section

namespace Cert.ReferenceIdeal.Value

open Idealize.ShloMosaic Idealize.ShloMosaic.Tactic Idealize.ShloMosaic.Pipeline Idealize.ShloMosaic.StableHlo
open Cert.ReferenceIdeal Cert.ReferenceIdeal.Gen

variable (V : Valuation τ sig (Elt Ideal))

/-- The second edge layer's count. -/
theorem r_call6_v8 : @Eq EReal (res_main_call6_v8 V ix0) (Ideal.ofBits .f32 0x45200000#32) := by
  unfold res_main_call6_v8
  clean_types
  pointwise
  exact (cnt _ _ (by norm_num) Consts.c2560).1

/-- The second edge layer's convolution less its mean. -/
theorem r_call6_v5 (o : Fin 256) (n : Fin 256) (k : Fin 10) :
    @Eq EReal (res_main_call6_v5 V (ix4 0 o n k)) ((inp V).conv (inp V).W2 (inp V).x1 o (n, k)
      - Ideal.div (∑ j, (inp V).conv (inp V).W2 (inp V).x1 o j) (Ideal.ofBits .f32 0x45200000#32)) := by
  unfold res_main_call6_v5
  clean_types
  pointwise
  simp only [r_v137, Fintype.sum_prod_type]

/-- The second edge layer, normalised. -/
theorem r_v149 (o : Fin 256) (n : Fin 256) (k : Fin 10) :
    @Eq EReal (res_main_v149 V (ix4 0 o n k))
      (Spec.nrm (Ideal.ofBits .f32 0x45200000#32) ((inp V).conv (inp V).W2 (inp V).x1 o) (n, k)) := by
  unfold res_main_v149
  clean_types
  pointwise
  simp only [r_v137, r_call6_v8, r_call6_v5, if_pos (cnt _ _ (by norm_num) Consts.c2560).2]
  unfold Spec.nrm
  simp only [Fintype.sum_prod_type]

/-- The pointwise convolution. -/
theorem r_v159 (o : Fin 128) (n : Fin 256) : @Eq EReal (res_main_v159 V (ix4 0 o n 0)) ((inp V).h3 o n) := by
  unfold res_main_v159
  clean_types
  pointwise
  simp only [r_v79, r_v149]
  rfl

/-- Its count. -/
theorem r_call8_v8 : @Eq EReal (res_main_call8_v8 V ix0) (Ideal.ofBits .f32 0x43800000#32) := by
  unfold res_main_call8_v8
  clean_types
  pointwise
  exact (cnt _ _ (by norm_num) Consts.c256).1

/-- The pointwise convolution less its mean. -/
theorem r_call8_v5 (o : Fin 128) (n : Fin 256) :
    @Eq EReal (res_main_call8_v5 V (ix4 0 o n 0)) ((inp V).h3 o n
      - Ideal.div (∑ j, (inp V).h3 o j) (Ideal.ofBits .f32 0x43800000#32)) := by
  unfold res_main_call8_v5
  clean_types
  pointwise
  simp only [Fin.sum_univ_one, r_v159]

/-- The pointwise convolution, normalised. -/
theorem r_v171 (o : Fin 128) (n : Fin 256) :
    @Eq EReal (res_main_v171 V (ix4 0 o n 0)) (Spec.nrm (Ideal.ofBits .f32 0x43800000#32) ((inp V).h3 o) n) := by
  unfold res_main_v171
  clean_types
  pointwise
  simp only [Fin.sum_univ_one, r_v159, r_call8_v8, r_call8_v5, if_pos (cnt _ _ (by norm_num) Consts.c256).2]
  rfl

/-- The features after the three layers. -/
theorem r_v178 (n : Fin 256) (o : Fin 128) : @Eq EReal (res_main_v178 V (ix3 0 n o)) ((inp V).x3 n o) := by
  unfold res_main_v178
  clean_types
  pointwise
  simp only [r_v171]
  rfl

/-- The queries, head by head. -/
theorem r_v185 (h : Fin 4) (n : Fin 256) (o : Fin 32) :
    @Eq EReal (res_main_v185 V (ix4 0 h n o)) ((inp V).lin (inp V).wq (inp V).bq n (Spec.ch h o)) := by
  unfold res_main_v185
  clean_types
  pointwise
  simp only [r_v178]
  rfl

/-- The angles times the frequencies. -/
theorem r_v92 (n m : Fin 256) (k : Fin 10) (j : Fin 64) :
    @Eq EReal (res_main_v92 V (ix5 0 n m k j)) ((inp V).ang n m k * Spec.Inputs.fr j) := by
  unfold res_main_v92
  clean_types
  pointwise
  simp only [r_v40, r_v46]
  rfl

/-- The scores. -/
theorem r_v212 (h : Fin 4) (n m : Fin 256) : @Eq EReal (res_main_v212 V (ix4 0 h n m)) ((inp V).score h n m) := by
  unfold res_main_v212
  clean_types
  pointwise
  simp only [r_v185, r_v178, r_v92]
  rfl

/-- The weights before they are divided. -/
theorem r_v219 (h : Fin 4) (n m : Fin 256) : @Eq EReal (res_main_v219 V (ix4 0 h n m)) ((inp V).ex h n m) := by
  unfold res_main_v219
  clean_types
  pointwise
  simp only [r_v212]
  rw [max_eq_right (by rw [Consts.inf_bot]; exact bot_le)]
  rfl

/-- The attention's linear layer added. -/
theorem r_v232 (n : Fin 256) (o : Fin 128) : @Eq EReal (res_main_v232 V (ix3 0 n o)) ((inp V).y n o) := by
  unfold res_main_v232
  clean_types
  pointwise
  simp only [r_v219, r_v178]
  rfl

/-- The layer norm's count. -/
theorem r_call10_v8 : @Eq EReal (res_main_call10_v8 V ix0) (Ideal.ofBits .f32 0x43000000#32) := by
  unfold res_main_call10_v8
  clean_types
  pointwise
  exact (cnt _ _ (by norm_num) Consts.c128).1

/-- The sum less its mean. -/
theorem r_call10_v5 (n : Fin 256) (o : Fin 128) :
    @Eq EReal (res_main_call10_v5 V (ix3 0 n o)) ((inp V).y n o
      - Ideal.div (∑ j, (inp V).y n j) (Ideal.ofBits .f32 0x43000000#32)) := by
  unfold res_main_call10_v5
  clean_types
  pointwise
  simp only [r_v232]

/-- The result is the layer norm of the sum. -/
theorem r_v251 (n : Fin 256) (o : Fin 128) : @Eq EReal ((
    transpose S1x128x256 [0, 2, 1] (addf (mulf (Host.divf (subf (res_main_v232 V) (broadcastInDim S1x256x128 ![0, 1, 2]
      bcast_S1x256x1_S1x256x128_0_1_2 (Host.divf (broadcastInDim S1x256x1 ![0, 1] bcast_S1x256_S1x256x1_0_1 (Host.reduceAdd
      (res_main_v232 V) (constant S_ .f32 0x00000000#32) reducesTo_S1x256x128_S1x256_d2 h_S_)) (broadcastInDim S1x256x1 ![]
      bcast_S_S1x256x1 (constant S_ .f32 0x43000000#32))))) (broadcastInDim S1x256x128 ![0, 1, 2]
      bcast_S1x256x1_S1x256x128_0_1_2 (Host.sqrt (addf (select (broadcastInDim S1x256x1 ![] bcast_S_S1x256x1 (cmpf .ogt
      (res_main_call10_v8 V) (constant S_ .f32 0x00000000#32))) (Host.divf (broadcastInDim S1x256x1 ![0, 1]
      bcast_S1x256_S1x256x1_0_1 (Host.reduceAdd (mulf (res_main_call10_v5 V) (res_main_call10_v5 V)) (constant S_ .f32
      0x00000000#32) reducesTo_S1x256x128_S1x256_d2 h_S_)) (broadcastInDim S1x256x1 ![] bcast_S_S1x256x1 (res_main_call10_v8
      V))) (broadcastInDim S1x256x1 ![] bcast_S_S1x256x1 (id (constant S_ .f32 0x7FC00000#32)))) (broadcastInDim S1x256x1
      ![] bcast_S_S1x256x1 (constant S_ .f32 0x3727C5AC#32)))))) (broadcastInDim S1x256x128 ![0, 1, 2]
      bcast_S1x1x128_S1x256x128_0_1_2 (broadcastInDim S1x1x128 ![2] bcast_S128_S1x1x128_2 (V (Proc.devRef .tc
      main_arg17))))) (broadcastInDim S1x256x128 ![0, 1, 2] bcast_S1x1x128_S1x256x128_0_1_2 (broadcastInDim S1x1x128 ![2]
      bcast_S128_S1x1x128_2 (V (Proc.devRef .tc main_arg18))))) transposes_S1x256x128_S1x128x256_0_2_1
      : S1x128x256.Idx → EReal) (ix3 0 o n)) ((inp V).out n o) := by
  clean_types
  pointwise
  simp only [r_v232, r_call10_v8, r_call10_v5, if_pos (cnt _ _ (by norm_num) Consts.c128).2]
  rfl

end Cert.ReferenceIdeal.Value

end
-- ==== Proof.Algebraic.lean ====
/- The claim that the kernel and the reference agree over the extended reals: both results are the same expression of the
   arguments. -/
module

public import proofs.«01_k».proof.Proof.KernelSecond
public import proofs.«01_k».proof.Proof.Finite
public import proofs.«01_k».proof.Proof.RefResult

@[expose] public section

set_option maxRecDepth 16384

noncomputable section

namespace Cert.Proof

open Idealize.ShloMosaic Idealize.ShloMosaic.TcCoe Idealize.SL.Sem

/-- An index of the result, by its channel and its point. -/
theorem idx_out (i : Cert.KernelIdeal.S1x128x256.Idx) : i = ix3 0 (i 1) (i 2) := funext fun a => by
  fin_cases a
  · have h : (i 0).val < 1 := (i 0).isLt
    exact Fin.ext (show (i 0).val = 0 by omega)
  · rfl
  · rfl

/-- The kernel's result is the reference's, at all arguments with the precondition. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  have hi : Cert.ReferenceIdeal.Value.inp (StableHlo.launchContents m' c) = Cert.KernelIdeal.Value.kinp m c := by
    obtain ⟨a0, a1, a2, a3, a4, a5, a6, a7, a8, a9, a10, a11, a12, a13, a14, a15, a16, a17, a18⟩ := hagree c
    unfold Cert.ReferenceIdeal.Value.inp Cert.KernelIdeal.Value.kinp
    congr 1
    · exact funext fun i => funext fun n => congrFun a0 _
    · exact funext fun i => funext fun n => congrFun a1 _
    · exact funext fun i => funext fun n => congrFun a2 _
    · exact funext fun i => funext fun n => congrFun a3 _
    · exact funext fun i => funext fun n => congrFun a4 _
    · exact funext fun i => funext fun n => congrFun a5 _
    · exact funext fun i => congrFun a6 _
    · exact funext fun i => funext fun n => congrFun a7 _
    · exact funext fun i => congrFun a8 _
    · exact funext fun i => funext fun n => congrFun a9 _
    · exact funext fun i => congrFun a10 _
    · exact funext fun i => funext fun n => congrFun a11 _
    · exact funext fun i => congrFun a12 _
    · exact funext fun i => funext fun n => congrFun a13 _
    · exact funext fun i => congrFun a14 _
    · exact funext fun i => funext fun n => congrFun a15 _
    · exact funext fun i => congrFun a16 _
    · exact funext fun i => congrFun a17 _
    · exact funext fun i => congrFun a18 _
  have hk := Cert.KernelIdeal.Value.W5_out m ρ c (Cert.KernelIdeal.Value.finite m hpre c)
  have hr := Cert.ReferenceIdeal.Value.r_v251 (StableHlo.launchContents m' c)
  rw [hi] at hr
  funext i
  rw [idx_out i]
  exact (hr (i 2) (i 1)).trans (hk (i 2) (i 1)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts, Cert.Pre_finite.Gen.facts,
  frame_p, frame_pi, frame_pi_finite, frame_ri, frame_ri_finite, preserves, algebraic⟩

end Cert.Proof

end
